-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S131072x128 : Shape := ⟨2, ![131072, 128]⟩
abbrev S64x128 : Shape := ⟨2, ![64, 128]⟩
abbrev S_ : Shape := ⟨0, ![]⟩
abbrev S16 : Shape := ⟨1, ![16]⟩
abbrev S1x16 : Shape := ⟨2, ![1, 16]⟩
abbrev S8 : Shape := ⟨1, ![8]⟩
abbrev S12 : Shape := ⟨1, ![12]⟩
abbrev S4 : Shape := ⟨1, ![4]⟩
abbrev S14 : Shape := ⟨1, ![14]⟩
abbrev S2 : Shape := ⟨1, ![2]⟩
abbrev S15 : Shape := ⟨1, ![15]⟩
abbrev S1 : Shape := ⟨1, ![1]⟩

abbrev nBuf : Table → Nat
  | .hbm => 2
  | .local .scVector .vmem => 8
  | _ => 0

abbrev bufTy : (tb : Table) → Fin (nBuf tb) → BufTy
  | .hbm, ⟨0, _⟩ => ⟨S131072x128, .f32⟩
  | .hbm, ⟨1, _⟩ => ⟨S131072x128, .f32⟩
  | .local .scVector .vmem, ⟨0, _⟩ => ⟨S64x128, .f32⟩
  | .local .scVector .vmem, ⟨1, _⟩ => ⟨S64x128, .f32⟩
  | .local .scVector .vmem, ⟨2, _⟩ => ⟨S64x128, .f32⟩
  | .local .scVector .vmem, ⟨3, _⟩ => ⟨S64x128, .f32⟩
  | .local .scVector .vmem, ⟨4, _⟩ => ⟨S64x128, .f32⟩
  | .local .scVector .vmem, ⟨5, _⟩ => ⟨S64x128, .f32⟩
  | .local .scVector .vmem, ⟨6, _⟩ => ⟨S64x128, .f32⟩
  | .local .scVector .vmem, ⟨7, _⟩ => ⟨S64x128, .f32⟩
  | _, _ => ⟨S131072x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let v3 : BitVec 32 := Scalar.addi v2 c0_i32
  let c0_i32_0 : BitVec 32 := 0#32
  ![v3.toNat, 0]
def k0_off1_at (r : Fin 12) : BitVec 32 :=
  if r.val < 6 then
    if r.val < 3 then
      if r.val < 1 then
        0#32
      else
        if r.val < 2 then
          64#32
        else
          128#32
    else
      if r.val < 4 then
        192#32
      else
        if r.val < 5 then
          256#32
        else
          320#32
  else
    if r.val < 9 then
      if r.val < 7 then
        384#32
      else
        if r.val < 8 then
          448#32
        else
          3840#32
    else
      if r.val < 10 then
        3904#32
      else
        if r.val < 11 then
          3968#32
        else
          4032#32
@[reducible] def k0_t1_loop : Scf.Loop 32 :=
  let c0_i32_13 : BitVec 32 := 0#32
  let c64_i32_14 : BitVec 32 := 64#32
  let v21 : BitVec 32 := Scalar.addi c0_i32_13 c64_i32_14
  let c1_i32 : BitVec 32 := 1#32
  ⟨c0_i32_13, v21, c1_i32⟩
def k0_off2 (k0_t1 : Fin k0_t1_loop.trips) : Fin 2 → Nat :=
  let c0_i32_13 : BitVec 32 := 0#32
  let c1_i32 : BitVec 32 := 1#32
  let arg20 : BitVec 32 := Scf.iv c0_i32_13 c1_i32 k0_t1
  let v141 : Index := Scalar.indexCast arg20
  let c0 : Index := 0#32
  ![v141.toNat, 0]
def k0_off3 (k0_t1 : Fin k0_t1_loop.trips) : Fin 2 → Nat :=
  let c0_i32_13 : BitVec 32 := 0#32
  let c1_i32 : BitVec 32 := 1#32
  let arg20 : BitVec 32 := Scf.iv c0_i32_13 c1_i32 k0_t1
  let v144 : Index := Scalar.indexCast arg20
  let c16 : Index := 16#32
  ![v144.toNat, 16]
def k0_off4 (k0_t1 : Fin k0_t1_loop.trips) : Fin 2 → Nat :=
  let c0_i32_13 : BitVec 32 := 0#32
  let c1_i32 : BitVec 32 := 1#32
  let arg20 : BitVec 32 := Scf.iv c0_i32_13 c1_i32 k0_t1
  let v147 : Index := Scalar.indexCast arg20
  let c32 : Index := 32#32
  ![v147.toNat, 32]
def k0_off5 (k0_t1 : Fin k0_t1_loop.trips) : Fin 2 → Nat :=
  let c0_i32_13 : BitVec 32 := 0#32
  let c1_i32 : BitVec 32 := 1#32
  let arg20 : BitVec 32 := Scf.iv c0_i32_13 c1_i32 k0_t1
  let v150 : Index := Scalar.indexCast arg20
  let c48 : Index := 48#32
  ![v150.toNat, 48]
def k0_off6 (k0_t1 : Fin k0_t1_loop.trips) : Fin 2 → Nat :=
  let c0_i32_13 : BitVec 32 := 0#32
  let c1_i32 : BitVec 32 := 1#32
  let arg20 : BitVec 32 := Scf.iv c0_i32_13 c1_i32 k0_t1
  let v153 : Index := Scalar.indexCast arg20
  let c64 : Index := 64#32
  ![v153.toNat, 64]
def k0_off7 (k0_t1 : Fin k0_t1_loop.trips) : Fin 2 → Nat :=
  let c0_i32_13 : BitVec 32 := 0#32
  let c1_i32 : BitVec 32 := 1#32
  let arg20 : BitVec 32 := Scf.iv c0_i32_13 c1_i32 k0_t1
  let v156 : Index := Scalar.indexCast arg20
  let c80 : Index := 80#32
  ![v156.toNat, 80]
def k0_off8 (k0_t1 : Fin k0_t1_loop.trips) : Fin 2 → Nat :=
  let c0_i32_13 : BitVec 32 := 0#32
  let c1_i32 : BitVec 32 := 1#32
  let arg20 : BitVec 32 := Scf.iv c0_i32_13 c1_i32 k0_t1
  let v159 : Index := Scalar.indexCast arg20
  let c96 : Index := 96#32
  ![v159.toNat, 96]
def k0_off9 (k0_t1 : Fin k0_t1_loop.trips) : Fin 2 → Nat :=
  let c0_i32_13 : BitVec 32 := 0#32
  let c1_i32 : BitVec 32 := 1#32
  let arg20 : BitVec 32 := Scf.iv c0_i32_13 c1_i32 k0_t1
  let v162 : Index := Scalar.indexCast arg20
  let c112 : Index := 112#32
  ![v162.toNat, 112]
@[reducible] def k0_t2_loop : Scf.Loop 32 :=
  let c0_i32_27 : BitVec 32 := 0#32
  let c64_i32_28 : BitVec 32 := 64#32
  let v35 : BitVec 32 := Scalar.addi c0_i32_27 c64_i32_28
  let c1_i32_29 : BitVec 32 := 1#32
  ⟨c0_i32_27, v35, c1_i32_29⟩
def k0_off10 (k0_t2 : Fin k0_t2_loop.trips) : Fin 2 → Nat :=
  let c0_i32_27 : BitVec 32 := 0#32
  let c1_i32_29 : BitVec 32 := 1#32
  let arg20 : BitVec 32 := Scf.iv c0_i32_27 c1_i32_29 k0_t2
  let v141 : Index := Scalar.indexCast arg20
  let c0 : Index := 0#32
  ![v141.toNat, 0]
def k0_off11 (k0_t2 : Fin k0_t2_loop.trips) : Fin 2 → Nat :=
  let c0_i32_27 : BitVec 32 := 0#32
  let c1_i32_29 : BitVec 32 := 1#32
  let arg20 : BitVec 32 := Scf.iv c0_i32_27 c1_i32_29 k0_t2
  let v144 : Index := Scalar.indexCast arg20
  let c16 : Index := 16#32
  ![v144.toNat, 16]
def k0_off12 (k0_t2 : Fin k0_t2_loop.trips) : Fin 2 → Nat :=
  let c0_i32_27 : BitVec 32 := 0#32
  let c1_i32_29 : BitVec 32 := 1#32
  let arg20 : BitVec 32 := Scf.iv c0_i32_27 c1_i32_29 k0_t2
  let v147 : Index := Scalar.indexCast arg20
  let c32 : Index := 32#32
  ![v147.toNat, 32]
def k0_off13 (k0_t2 : Fin k0_t2_loop.trips) : Fin 2 → Nat :=
  let c0_i32_27 : BitVec 32 := 0#32
  let c1_i32_29 : BitVec 32 := 1#32
  let arg20 : BitVec 32 := Scf.iv c0_i32_27 c1_i32_29 k0_t2
  let v150 : Index := Scalar.indexCast arg20
  let c48 : Index := 48#32
  ![v150.toNat, 48]
def k0_off14 (k0_t2 : Fin k0_t2_loop.trips) : Fin 2 → Nat :=
  let c0_i32_27 : BitVec 32 := 0#32
  let c1_i32_29 : BitVec 32 := 1#32
  let arg20 : BitVec 32 := Scf.iv c0_i32_27 c1_i32_29 k0_t2
  let v153 : Index := Scalar.indexCast arg20
  let c64 : Index := 64#32
  ![v153.toNat, 64]
def k0_off15 (k0_t2 : Fin k0_t2_loop.trips) : Fin 2 → Nat :=
  let c0_i32_27 : BitVec 32 := 0#32
  let c1_i32_29 : BitVec 32 := 1#32
  let arg20 : BitVec 32 := Scf.iv c0_i32_27 c1_i32_29 k0_t2
  let v156 : Index := Scalar.indexCast arg20
  let c80 : Index := 80#32
  ![v156.toNat, 80]
def k0_off16 (k0_t2 : Fin k0_t2_loop.trips) : Fin 2 → Nat :=
  let c0_i32_27 : BitVec 32 := 0#32
  let c1_i32_29 : BitVec 32 := 1#32
  let arg20 : BitVec 32 := Scf.iv c0_i32_27 c1_i32_29 k0_t2
  let v159 : Index := Scalar.indexCast arg20
  let c96 : Index := 96#32
  ![v159.toNat, 96]
def k0_off17 (k0_t2 : Fin k0_t2_loop.trips) : Fin 2 → Nat :=
  let c0_i32_27 : BitVec 32 := 0#32
  let c1_i32_29 : BitVec 32 := 1#32
  let arg20 : BitVec 32 := Scf.iv c0_i32_27 c1_i32_29 k0_t2
  let v162 : Index := Scalar.indexCast arg20
  let c112 : Index := 112#32
  ![v162.toNat, 112]
@[reducible] def k0_t3_loop : Scf.Loop 32 :=
  let c0_i32_42 : BitVec 32 := 0#32
  let c64_i32_43 : BitVec 32 := 64#32
  let v49 : BitVec 32 := Scalar.addi c0_i32_42 c64_i32_43
  let c1_i32_44 : BitVec 32 := 1#32
  ⟨c0_i32_42, v49, c1_i32_44⟩
def k0_off18 (k0_t3 : Fin k0_t3_loop.trips) : Fin 2 → Nat :=
  let c0_i32_42 : BitVec 32 := 0#32
  let c1_i32_44 : BitVec 32 := 1#32
  let arg20 : BitVec 32 := Scf.iv c0_i32_42 c1_i32_44 k0_t3
  let v141 : Index := Scalar.indexCast arg20
  let c0 : Index := 0#32
  ![v141.toNat, 0]
def k0_off19 (k0_t3 : Fin k0_t3_loop.trips) : Fin 2 → Nat :=
  let c0_i32_42 : BitVec 32 := 0#32
  let c1_i32_44 : BitVec 32 := 1#32
  let arg20 : BitVec 32 := Scf.iv c0_i32_42 c1_i32_44 k0_t3
  let v144 : Index := Scalar.indexCast arg20
  let c16 : Index := 16#32
  ![v144.toNat, 16]
def k0_off20 (k0_t3 : Fin k0_t3_loop.trips) : Fin 2 → Nat :=
  let c0_i32_42 : BitVec 32 := 0#32
  let c1_i32_44 : BitVec 32 := 1#32
  let arg20 : BitVec 32 := Scf.iv c0_i32_42 c1_i32_44 k0_t3
  let v147 : Index := Scalar.indexCast arg20
  let c32 : Index := 32#32
  ![v147.toNat, 32]
def k0_off21 (k0_t3 : Fin k0_t3_loop.trips) : Fin 2 → Nat :=
  let c0_i32_42 : BitVec 32 := 0#32
  let c1_i32_44 : BitVec 32 := 1#32
  let arg20 : BitVec 32 := Scf.iv c0_i32_42 c1_i32_44 k0_t3
  let v150 : Index := Scalar.indexCast arg20
  let c48 : Index := 48#32
  ![v150.toNat, 48]
def k0_off22 (k0_t3 : Fin k0_t3_loop.trips) : Fin 2 → Nat :=
  let c0_i32_42 : BitVec 32 := 0#32
  let c1_i32_44 : BitVec 32 := 1#32
  let arg20 : BitVec 32 := Scf.iv c0_i32_42 c1_i32_44 k0_t3
  let v153 : Index := Scalar.indexCast arg20
  let c64 : Index := 64#32
  ![v153.toNat, 64]
def k0_off23 (k0_t3 : Fin k0_t3_loop.trips) : Fin 2 → Nat :=
  let c0_i32_42 : BitVec 32 := 0#32
  let c1_i32_44 : BitVec 32 := 1#32
  let arg20 : BitVec 32 := Scf.iv c0_i32_42 c1_i32_44 k0_t3
  let v156 : Index := Scalar.indexCast arg20
  let c80 : Index := 80#32
  ![v156.toNat, 80]
def k0_off24 (k0_t3 : Fin k0_t3_loop.trips) : Fin 2 → Nat :=
  let c0_i32_42 : BitVec 32 := 0#32
  let c1_i32_44 : BitVec 32 := 1#32
  let arg20 : BitVec 32 := Scf.iv c0_i32_42 c1_i32_44 k0_t3
  let v159 : Index := Scalar.indexCast arg20
  let c96 : Index := 96#32
  ![v159.toNat, 96]
def k0_off25 (k0_t3 : Fin k0_t3_loop.trips) : Fin 2 → Nat :=
  let c0_i32_42 : BitVec 32 := 0#32
  let c1_i32_44 : BitVec 32 := 1#32
  let arg20 : BitVec 32 := Scf.iv c0_i32_42 c1_i32_44 k0_t3
  let v162 : Index := Scalar.indexCast arg20
  let c112 : Index := 112#32
  ![v162.toNat, 112]
@[reducible] def k0_t4_loop : Scf.Loop 32 :=
  let c0_i32_57 : BitVec 32 := 0#32
  let c64_i32_58 : BitVec 32 := 64#32
  let v63 : BitVec 32 := Scalar.addi c0_i32_57 c64_i32_58
  let c1_i32_59 : BitVec 32 := 1#32
  ⟨c0_i32_57, v63, c1_i32_59⟩
def k0_off26 (k0_t4 : Fin k0_t4_loop.trips) : Fin 2 → Nat :=
  let c0_i32_57 : BitVec 32 := 0#32
  let c1_i32_59 : BitVec 32 := 1#32
  let arg20 : BitVec 32 := Scf.iv c0_i32_57 c1_i32_59 k0_t4
  let v141 : Index := Scalar.indexCast arg20
  let c0 : Index := 0#32
  ![v141.toNat, 0]
def k0_off27 (k0_t4 : Fin k0_t4_loop.trips) : Fin 2 → Nat :=
  let c0_i32_57 : BitVec 32 := 0#32
  let c1_i32_59 : BitVec 32 := 1#32
  let arg20 : BitVec 32 := Scf.iv c0_i32_57 c1_i32_59 k0_t4
  let v144 : Index := Scalar.indexCast arg20
  let c16 : Index := 16#32
  ![v144.toNat, 16]
def k0_off28 (k0_t4 : Fin k0_t4_loop.trips) : Fin 2 → Nat :=
  let c0_i32_57 : BitVec 32 := 0#32
  let c1_i32_59 : BitVec 32 := 1#32
  let arg20 : BitVec 32 := Scf.iv c0_i32_57 c1_i32_59 k0_t4
  let v147 : Index := Scalar.indexCast arg20
  let c32 : Index := 32#32
  ![v147.toNat, 32]
def k0_off29 (k0_t4 : Fin k0_t4_loop.trips) : Fin 2 → Nat :=
  let c0_i32_57 : BitVec 32 := 0#32
  let c1_i32_59 : BitVec 32 := 1#32
  let arg20 : BitVec 32 := Scf.iv c0_i32_57 c1_i32_59 k0_t4
  let v150 : Index := Scalar.indexCast arg20
  let c48 : Index := 48#32
  ![v150.toNat, 48]
def k0_off30 (k0_t4 : Fin k0_t4_loop.trips) : Fin 2 → Nat :=
  let c0_i32_57 : BitVec 32 := 0#32
  let c1_i32_59 : BitVec 32 := 1#32
  let arg20 : BitVec 32 := Scf.iv c0_i32_57 c1_i32_59 k0_t4
  let v153 : Index := Scalar.indexCast arg20
  let c64 : Index := 64#32
  ![v153.toNat, 64]
def k0_off31 (k0_t4 : Fin k0_t4_loop.trips) : Fin 2 → Nat :=
  let c0_i32_57 : BitVec 32 := 0#32
  let c1_i32_59 : BitVec 32 := 1#32
  let arg20 : BitVec 32 := Scf.iv c0_i32_57 c1_i32_59 k0_t4
  let v156 : Index := Scalar.indexCast arg20
  let c80 : Index := 80#32
  ![v156.toNat, 80]
def k0_off32 (k0_t4 : Fin k0_t4_loop.trips) : Fin 2 → Nat :=
  let c0_i32_57 : BitVec 32 := 0#32
  let c1_i32_59 : BitVec 32 := 1#32
  let arg20 : BitVec 32 := Scf.iv c0_i32_57 c1_i32_59 k0_t4
  let v159 : Index := Scalar.indexCast arg20
  let c96 : Index := 96#32
  ![v159.toNat, 96]
def k0_off33 (k0_t4 : Fin k0_t4_loop.trips) : Fin 2 → Nat :=
  let c0_i32_57 : BitVec 32 := 0#32
  let c1_i32_59 : BitVec 32 := 1#32
  let arg20 : BitVec 32 := Scf.iv c0_i32_57 c1_i32_59 k0_t4
  let v162 : Index := Scalar.indexCast arg20
  let c112 : Index := 112#32
  ![v162.toNat, 112]
@[reducible] def k0_t5_loop : Scf.Loop 32 :=
  let c1_i32_67 : BitVec 32 := 1#32
  let c14_i32 : BitVec 32 := 14#32
  let v71 : BitVec 32 := Scalar.addi c1_i32_67 c14_i32
  let c1_i32_68 : BitVec 32 := 1#32
  ⟨c1_i32_67, v71, c1_i32_68⟩
def k0_off34 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_143 : BitVec 32 := 0#32
  let v143 : BitVec 32 := Scalar.addi v2 c0_i32_143
  let c0_i32_144 : BitVec 32 := 0#32
  ![v143.toNat, 0]
@[reducible] def k0_t6_loop : Scf.Loop 32 :=
  let c0_i32_152 : BitVec 32 := 0#32
  let c64_i32_153 : BitVec 32 := 64#32
  let v152 : BitVec 32 := Scalar.addi c0_i32_152 c64_i32_153
  let c1_i32_154 : BitVec 32 := 1#32
  ⟨c0_i32_152, v152, c1_i32_154⟩
def k0_off35 (k0_t6 : Fin k0_t6_loop.trips) : Fin 2 → Nat :=
  let c0_i32_152 : BitVec 32 := 0#32
  let c1_i32_154 : BitVec 32 := 1#32
  let arg22 : BitVec 32 := Scf.iv c0_i32_152 c1_i32_154 k0_t6
  let v229 : Index := Scalar.indexCast arg22
  let c0 : Index := 0#32
  ![v229.toNat, 0]
def k0_off36 (k0_t6 : Fin k0_t6_loop.trips) : Fin 2 → Nat :=
  let c0_i32_152 : BitVec 32 := 0#32
  let c1_i32_154 : BitVec 32 := 1#32
  let arg22 : BitVec 32 := Scf.iv c0_i32_152 c1_i32_154 k0_t6
  let v232 : Index := Scalar.indexCast arg22
  let c16 : Index := 16#32
  ![v232.toNat, 16]
def k0_off37 (k0_t6 : Fin k0_t6_loop.trips) : Fin 2 → Nat :=
  let c0_i32_152 : BitVec 32 := 0#32
  let c1_i32_154 : BitVec 32 := 1#32
  let arg22 : BitVec 32 := Scf.iv c0_i32_152 c1_i32_154 k0_t6
  let v235 : Index := Scalar.indexCast arg22
  let c32 : Index := 32#32
  ![v235.toNat, 32]
def k0_off38 (k0_t6 : Fin k0_t6_loop.trips) : Fin 2 → Nat :=
  let c0_i32_152 : BitVec 32 := 0#32
  let c1_i32_154 : BitVec 32 := 1#32
  let arg22 : BitVec 32 := Scf.iv c0_i32_152 c1_i32_154 k0_t6
  let v238 : Index := Scalar.indexCast arg22
  let c48 : Index := 48#32
  ![v238.toNat, 48]
def k0_off39 (k0_t6 : Fin k0_t6_loop.trips) : Fin 2 → Nat :=
  let c0_i32_152 : BitVec 32 := 0#32
  let c1_i32_154 : BitVec 32 := 1#32
  let arg22 : BitVec 32 := Scf.iv c0_i32_152 c1_i32_154 k0_t6
  let v241 : Index := Scalar.indexCast arg22
  let c64 : Index := 64#32
  ![v241.toNat, 64]
def k0_off40 (k0_t6 : Fin k0_t6_loop.trips) : Fin 2 → Nat :=
  let c0_i32_152 : BitVec 32 := 0#32
  let c1_i32_154 : BitVec 32 := 1#32
  let arg22 : BitVec 32 := Scf.iv c0_i32_152 c1_i32_154 k0_t6
  let v244 : Index := Scalar.indexCast arg22
  let c80 : Index := 80#32
  ![v244.toNat, 80]
def k0_off41 (k0_t6 : Fin k0_t6_loop.trips) : Fin 2 → Nat :=
  let c0_i32_152 : BitVec 32 := 0#32
  let c1_i32_154 : BitVec 32 := 1#32
  let arg22 : BitVec 32 := Scf.iv c0_i32_152 c1_i32_154 k0_t6
  let v247 : Index := Scalar.indexCast arg22
  let c96 : Index := 96#32
  ![v247.toNat, 96]
def k0_off42 (k0_t6 : Fin k0_t6_loop.trips) : Fin 2 → Nat :=
  let c0_i32_152 : BitVec 32 := 0#32
  let c1_i32_154 : BitVec 32 := 1#32
  let arg22 : BitVec 32 := Scf.iv c0_i32_152 c1_i32_154 k0_t6
  let v250 : Index := Scalar.indexCast arg22
  let c112 : Index := 112#32
  ![v250.toNat, 112]
def k0_off43 (i : grid0.Coords) (k0_t5 : Fin k0_t5_loop.trips) (c0_i32_142 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c1_i32_67 : BitVec 32 := 1#32
  let c1_i32_68 : BitVec 32 := 1#32
  let arg20 : BitVec 32 := Scf.iv c1_i32_67 c1_i32_68 k0_t5
  let c4_i32 : BitVec 32 := 4#32
  let v141 : BitVec 32 := Scalar.muli arg20 c4_i32
  let v142 : BitVec 32 := Scalar.addi v141 c0_i32_142
  let c64_i32_156 : BitVec 32 := 64#32
  let v154 : BitVec 32 := Scalar.muli v142 c64_i32_156
  let v155 : BitVec 32 := Scalar.addi v2 v154
  let c0_i32_157 : BitVec 32 := 0#32
  ![v155.toNat, 0]
def k0_off44 (i : grid0.Coords) (k0_t5 : Fin k0_t5_loop.trips) (c0_i32_142 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c1_i32_67 : BitVec 32 := 1#32
  let c1_i32_68 : BitVec 32 := 1#32
  let arg20 : BitVec 32 := Scf.iv c1_i32_67 c1_i32_68 k0_t5
  let c4_i32 : BitVec 32 := 4#32
  let v141 : BitVec 32 := Scalar.muli arg20 c4_i32
  let v142 : BitVec 32 := Scalar.addi v141 c0_i32_142
  let c4_i32_159 : BitVec 32 := 4#32
  let v158 : BitVec 32 := Scalar.addi v142 c4_i32_159
  let c64_i32_160 : BitVec 32 := 64#32
  let v159 : BitVec 32 := Scalar.muli v158 c64_i32_160
  let v160 : BitVec 32 := Scalar.addi v2 v159
  let c0_i32_161 : BitVec 32 := 0#32
  ![v160.toNat, 0]
@[reducible] def k0_t7_loop : Scf.Loop 32 :=
  let c0_i32_174 : BitVec 32 := 0#32
  let c64_i32_175 : BitVec 32 := 64#32
  let v174 : BitVec 32 := Scalar.addi c0_i32_174 c64_i32_175
  let c1_i32_176 : BitVec 32 := 1#32
  ⟨c0_i32_174, v174, c1_i32_176⟩
def k0_off45 (k0_t7 : Fin k0_t7_loop.trips) : Fin 2 → Nat :=
  let c0_i32_174 : BitVec 32 := 0#32
  let c1_i32_176 : BitVec 32 := 1#32
  let arg22 : BitVec 32 := Scf.iv c0_i32_174 c1_i32_176 k0_t7
  let v229 : Index := Scalar.indexCast arg22
  let c0 : Index := 0#32
  ![v229.toNat, 0]
def k0_off46 (k0_t7 : Fin k0_t7_loop.trips) : Fin 2 → Nat :=
  let c0_i32_174 : BitVec 32 := 0#32
  let c1_i32_176 : BitVec 32 := 1#32
  let arg22 : BitVec 32 := Scf.iv c0_i32_174 c1_i32_176 k0_t7
  let v232 : Index := Scalar.indexCast arg22
  let c16 : Index := 16#32
  ![v232.toNat, 16]
def k0_off47 (k0_t7 : Fin k0_t7_loop.trips) : Fin 2 → Nat :=
  let c0_i32_174 : BitVec 32 := 0#32
  let c1_i32_176 : BitVec 32 := 1#32
  let arg22 : BitVec 32 := Scf.iv c0_i32_174 c1_i32_176 k0_t7
  let v235 : Index := Scalar.indexCast arg22
  let c32 : Index := 32#32
  ![v235.toNat, 32]
def k0_off48 (k0_t7 : Fin k0_t7_loop.trips) : Fin 2 → Nat :=
  let c0_i32_174 : BitVec 32 := 0#32
  let c1_i32_176 : BitVec 32 := 1#32
  let arg22 : BitVec 32 := Scf.iv c0_i32_174 c1_i32_176 k0_t7
  let v238 : Index := Scalar.indexCast arg22
  let c48 : Index := 48#32
  ![v238.toNat, 48]
def k0_off49 (k0_t7 : Fin k0_t7_loop.trips) : Fin 2 → Nat :=
  let c0_i32_174 : BitVec 32 := 0#32
  let c1_i32_176 : BitVec 32 := 1#32
  let arg22 : BitVec 32 := Scf.iv c0_i32_174 c1_i32_176 k0_t7
  let v241 : Index := Scalar.indexCast arg22
  let c64 : Index := 64#32
  ![v241.toNat, 64]
def k0_off50 (k0_t7 : Fin k0_t7_loop.trips) : Fin 2 → Nat :=
  let c0_i32_174 : BitVec 32 := 0#32
  let c1_i32_176 : BitVec 32 := 1#32
  let arg22 : BitVec 32 := Scf.iv c0_i32_174 c1_i32_176 k0_t7
  let v244 : Index := Scalar.indexCast arg22
  let c80 : Index := 80#32
  ![v244.toNat, 80]
def k0_off51 (k0_t7 : Fin k0_t7_loop.trips) : Fin 2 → Nat :=
  let c0_i32_174 : BitVec 32 := 0#32
  let c1_i32_176 : BitVec 32 := 1#32
  let arg22 : BitVec 32 := Scf.iv c0_i32_174 c1_i32_176 k0_t7
  let v247 : Index := Scalar.indexCast arg22
  let c96 : Index := 96#32
  ![v247.toNat, 96]
def k0_off52 (k0_t7 : Fin k0_t7_loop.trips) : Fin 2 → Nat :=
  let c0_i32_174 : BitVec 32 := 0#32
  let c1_i32_176 : BitVec 32 := 1#32
  let arg22 : BitVec 32 := Scf.iv c0_i32_174 c1_i32_176 k0_t7
  let v250 : Index := Scalar.indexCast arg22
  let c112 : Index := 112#32
  ![v250.toNat, 112]
@[reducible] def k0_t8_loop : Scf.Loop 32 :=
  let c0_i32_196 : BitVec 32 := 0#32
  let c64_i32_197 : BitVec 32 := 64#32
  let v196 : BitVec 32 := Scalar.addi c0_i32_196 c64_i32_197
  let c1_i32_198 : BitVec 32 := 1#32
  ⟨c0_i32_196, v196, c1_i32_198⟩
def k0_off53 (k0_t8 : Fin k0_t8_loop.trips) : Fin 2 → Nat :=
  let c0_i32_196 : BitVec 32 := 0#32
  let c1_i32_198 : BitVec 32 := 1#32
  let arg22 : BitVec 32 := Scf.iv c0_i32_196 c1_i32_198 k0_t8
  let v229 : Index := Scalar.indexCast arg22
  let c0 : Index := 0#32
  ![v229.toNat, 0]
def k0_off54 (k0_t8 : Fin k0_t8_loop.trips) : Fin 2 → Nat :=
  let c0_i32_196 : BitVec 32 := 0#32
  let c1_i32_198 : BitVec 32 := 1#32
  let arg22 : BitVec 32 := Scf.iv c0_i32_196 c1_i32_198 k0_t8
  let v232 : Index := Scalar.indexCast arg22
  let c16 : Index := 16#32
  ![v232.toNat, 16]
def k0_off55 (k0_t8 : Fin k0_t8_loop.trips) : Fin 2 → Nat :=
  let c0_i32_196 : BitVec 32 := 0#32
  let c1_i32_198 : BitVec 32 := 1#32
  let arg22 : BitVec 32 := Scf.iv c0_i32_196 c1_i32_198 k0_t8
  let v235 : Index := Scalar.indexCast arg22
  let c32 : Index := 32#32
  ![v235.toNat, 32]
def k0_off56 (k0_t8 : Fin k0_t8_loop.trips) : Fin 2 → Nat :=
  let c0_i32_196 : BitVec 32 := 0#32
  let c1_i32_198 : BitVec 32 := 1#32
  let arg22 : BitVec 32 := Scf.iv c0_i32_196 c1_i32_198 k0_t8
  let v238 : Index := Scalar.indexCast arg22
  let c48 : Index := 48#32
  ![v238.toNat, 48]
def k0_off57 (k0_t8 : Fin k0_t8_loop.trips) : Fin 2 → Nat :=
  let c0_i32_196 : BitVec 32 := 0#32
  let c1_i32_198 : BitVec 32 := 1#32
  let arg22 : BitVec 32 := Scf.iv c0_i32_196 c1_i32_198 k0_t8
  let v241 : Index := Scalar.indexCast arg22
  let c64 : Index := 64#32
  ![v241.toNat, 64]
def k0_off58 (k0_t8 : Fin k0_t8_loop.trips) : Fin 2 → Nat :=
  let c0_i32_196 : BitVec 32 := 0#32
  let c1_i32_198 : BitVec 32 := 1#32
  let arg22 : BitVec 32 := Scf.iv c0_i32_196 c1_i32_198 k0_t8
  let v244 : Index := Scalar.indexCast arg22
  let c80 : Index := 80#32
  ![v244.toNat, 80]
def k0_off59 (k0_t8 : Fin k0_t8_loop.trips) : Fin 2 → Nat :=
  let c0_i32_196 : BitVec 32 := 0#32
  let c1_i32_198 : BitVec 32 := 1#32
  let arg22 : BitVec 32 := Scf.iv c0_i32_196 c1_i32_198 k0_t8
  let v247 : Index := Scalar.indexCast arg22
  let c96 : Index := 96#32
  ![v247.toNat, 96]
def k0_off60 (k0_t8 : Fin k0_t8_loop.trips) : Fin 2 → Nat :=
  let c0_i32_196 : BitVec 32 := 0#32
  let c1_i32_198 : BitVec 32 := 1#32
  let arg22 : BitVec 32 := Scf.iv c0_i32_196 c1_i32_198 k0_t8
  let v250 : Index := Scalar.indexCast arg22
  let c112 : Index := 112#32
  ![v250.toNat, 112]
@[reducible] def k0_t9_loop : Scf.Loop 32 :=
  let c0_i32_217 : BitVec 32 := 0#32
  let c64_i32_218 : BitVec 32 := 64#32
  let v218 : BitVec 32 := Scalar.addi c0_i32_217 c64_i32_218
  let c1_i32_219 : BitVec 32 := 1#32
  ⟨c0_i32_217, v218, c1_i32_219⟩
def k0_off61 (k0_t9 : Fin k0_t9_loop.trips) : Fin 2 → Nat :=
  let c0_i32_217 : BitVec 32 := 0#32
  let c1_i32_219 : BitVec 32 := 1#32
  let arg22 : BitVec 32 := Scf.iv c0_i32_217 c1_i32_219 k0_t9
  let v229 : Index := Scalar.indexCast arg22
  let c0 : Index := 0#32
  ![v229.toNat, 0]
def k0_off62 (k0_t9 : Fin k0_t9_loop.trips) : Fin 2 → Nat :=
  let c0_i32_217 : BitVec 32 := 0#32
  let c1_i32_219 : BitVec 32 := 1#32
  let arg22 : BitVec 32 := Scf.iv c0_i32_217 c1_i32_219 k0_t9
  let v232 : Index := Scalar.indexCast arg22
  let c16 : Index := 16#32
  ![v232.toNat, 16]
def k0_off63 (k0_t9 : Fin k0_t9_loop.trips) : Fin 2 → Nat :=
  let c0_i32_217 : BitVec 32 := 0#32
  let c1_i32_219 : BitVec 32 := 1#32
  let arg22 : BitVec 32 := Scf.iv c0_i32_217 c1_i32_219 k0_t9
  let v235 : Index := Scalar.indexCast arg22
  let c32 : Index := 32#32
  ![v235.toNat, 32]
def k0_off64 (k0_t9 : Fin k0_t9_loop.trips) : Fin 2 → Nat :=
  let c0_i32_217 : BitVec 32 := 0#32
  let c1_i32_219 : BitVec 32 := 1#32
  let arg22 : BitVec 32 := Scf.iv c0_i32_217 c1_i32_219 k0_t9
  let v238 : Index := Scalar.indexCast arg22
  let c48 : Index := 48#32
  ![v238.toNat, 48]
def k0_off65 (k0_t9 : Fin k0_t9_loop.trips) : Fin 2 → Nat :=
  let c0_i32_217 : BitVec 32 := 0#32
  let c1_i32_219 : BitVec 32 := 1#32
  let arg22 : BitVec 32 := Scf.iv c0_i32_217 c1_i32_219 k0_t9
  let v241 : Index := Scalar.indexCast arg22
  let c64 : Index := 64#32
  ![v241.toNat, 64]
def k0_off66 (k0_t9 : Fin k0_t9_loop.trips) : Fin 2 → Nat :=
  let c0_i32_217 : BitVec 32 := 0#32
  let c1_i32_219 : BitVec 32 := 1#32
  let arg22 : BitVec 32 := Scf.iv c0_i32_217 c1_i32_219 k0_t9
  let v244 : Index := Scalar.indexCast arg22
  let c80 : Index := 80#32
  ![v244.toNat, 80]
def k0_off67 (k0_t9 : Fin k0_t9_loop.trips) : Fin 2 → Nat :=
  let c0_i32_217 : BitVec 32 := 0#32
  let c1_i32_219 : BitVec 32 := 1#32
  let arg22 : BitVec 32 := Scf.iv c0_i32_217 c1_i32_219 k0_t9
  let v247 : Index := Scalar.indexCast arg22
  let c96 : Index := 96#32
  ![v247.toNat, 96]
def k0_off68 (k0_t9 : Fin k0_t9_loop.trips) : Fin 2 → Nat :=
  let c0_i32_217 : BitVec 32 := 0#32
  let c1_i32_219 : BitVec 32 := 1#32
  let arg22 : BitVec 32 := Scf.iv c0_i32_217 c1_i32_219 k0_t9
  let v250 : Index := Scalar.indexCast arg22
  let c112 : Index := 112#32
  ![v250.toNat, 112]
@[reducible] def k0_t10_loop : Scf.Loop 32 :=
  let c0_i32_79 : BitVec 32 := 0#32
  let c64_i32_80 : BitVec 32 := 64#32
  let v82 : BitVec 32 := Scalar.addi c0_i32_79 c64_i32_80
  let c1_i32_81 : BitVec 32 := 1#32
  ⟨c0_i32_79, v82, c1_i32_81⟩
def k0_off69 (k0_t10 : Fin k0_t10_loop.trips) : Fin 2 → Nat :=
  let c0_i32_79 : BitVec 32 := 0#32
  let c1_i32_81 : BitVec 32 := 1#32
  let arg20 : BitVec 32 := Scf.iv c0_i32_79 c1_i32_81 k0_t10
  let v141 : Index := Scalar.indexCast arg20
  let c0 : Index := 0#32
  ![v141.toNat, 0]
def k0_off70 (k0_t10 : Fin k0_t10_loop.trips) : Fin 2 → Nat :=
  let c0_i32_79 : BitVec 32 := 0#32
  let c1_i32_81 : BitVec 32 := 1#32
  let arg20 : BitVec 32 := Scf.iv c0_i32_79 c1_i32_81 k0_t10
  let v144 : Index := Scalar.indexCast arg20
  let c16 : Index := 16#32
  ![v144.toNat, 16]
def k0_off71 (k0_t10 : Fin k0_t10_loop.trips) : Fin 2 → Nat :=
  let c0_i32_79 : BitVec 32 := 0#32
  let c1_i32_81 : BitVec 32 := 1#32
  let arg20 : BitVec 32 := Scf.iv c0_i32_79 c1_i32_81 k0_t10
  let v147 : Index := Scalar.indexCast arg20
  let c32 : Index := 32#32
  ![v147.toNat, 32]
def k0_off72 (k0_t10 : Fin k0_t10_loop.trips) : Fin 2 → Nat :=
  let c0_i32_79 : BitVec 32 := 0#32
  let c1_i32_81 : BitVec 32 := 1#32
  let arg20 : BitVec 32 := Scf.iv c0_i32_79 c1_i32_81 k0_t10
  let v150 : Index := Scalar.indexCast arg20
  let c48 : Index := 48#32
  ![v150.toNat, 48]
def k0_off73 (k0_t10 : Fin k0_t10_loop.trips) : Fin 2 → Nat :=
  let c0_i32_79 : BitVec 32 := 0#32
  let c1_i32_81 : BitVec 32 := 1#32
  let arg20 : BitVec 32 := Scf.iv c0_i32_79 c1_i32_81 k0_t10
  let v153 : Index := Scalar.indexCast arg20
  let c64 : Index := 64#32
  ![v153.toNat, 64]
def k0_off74 (k0_t10 : Fin k0_t10_loop.trips) : Fin 2 → Nat :=
  let c0_i32_79 : BitVec 32 := 0#32
  let c1_i32_81 : BitVec 32 := 1#32
  let arg20 : BitVec 32 := Scf.iv c0_i32_79 c1_i32_81 k0_t10
  let v156 : Index := Scalar.indexCast arg20
  let c80 : Index := 80#32
  ![v156.toNat, 80]
def k0_off75 (k0_t10 : Fin k0_t10_loop.trips) : Fin 2 → Nat :=
  let c0_i32_79 : BitVec 32 := 0#32
  let c1_i32_81 : BitVec 32 := 1#32
  let arg20 : BitVec 32 := Scf.iv c0_i32_79 c1_i32_81 k0_t10
  let v159 : Index := Scalar.indexCast arg20
  let c96 : Index := 96#32
  ![v159.toNat, 96]
def k0_off76 (k0_t10 : Fin k0_t10_loop.trips) : Fin 2 → Nat :=
  let c0_i32_79 : BitVec 32 := 0#32
  let c1_i32_81 : BitVec 32 := 1#32
  let arg20 : BitVec 32 := Scf.iv c0_i32_79 c1_i32_81 k0_t10
  let v162 : Index := Scalar.indexCast arg20
  let c112 : Index := 112#32
  ![v162.toNat, 112]
@[reducible] def k0_t11_loop : Scf.Loop 32 :=
  let c0_i32_94 : BitVec 32 := 0#32
  let c64_i32_95 : BitVec 32 := 64#32
  let v96 : BitVec 32 := Scalar.addi c0_i32_94 c64_i32_95
  let c1_i32_96 : BitVec 32 := 1#32
  ⟨c0_i32_94, v96, c1_i32_96⟩
def k0_off77 (k0_t11 : Fin k0_t11_loop.trips) : Fin 2 → Nat :=
  let c0_i32_94 : BitVec 32 := 0#32
  let c1_i32_96 : BitVec 32 := 1#32
  let arg20 : BitVec 32 := Scf.iv c0_i32_94 c1_i32_96 k0_t11
  let v141 : Index := Scalar.indexCast arg20
  let c0 : Index := 0#32
  ![v141.toNat, 0]
def k0_off78 (k0_t11 : Fin k0_t11_loop.trips) : Fin 2 → Nat :=
  let c0_i32_94 : BitVec 32 := 0#32
  let c1_i32_96 : BitVec 32 := 1#32
  let arg20 : BitVec 32 := Scf.iv c0_i32_94 c1_i32_96 k0_t11
  let v144 : Index := Scalar.indexCast arg20
  let c16 : Index := 16#32
  ![v144.toNat, 16]
def k0_off79 (k0_t11 : Fin k0_t11_loop.trips) : Fin 2 → Nat :=
  let c0_i32_94 : BitVec 32 := 0#32
  let c1_i32_96 : BitVec 32 := 1#32
  let arg20 : BitVec 32 := Scf.iv c0_i32_94 c1_i32_96 k0_t11
  let v147 : Index := Scalar.indexCast arg20
  let c32 : Index := 32#32
  ![v147.toNat, 32]
def k0_off80 (k0_t11 : Fin k0_t11_loop.trips) : Fin 2 → Nat :=
  let c0_i32_94 : BitVec 32 := 0#32
  let c1_i32_96 : BitVec 32 := 1#32
  let arg20 : BitVec 32 := Scf.iv c0_i32_94 c1_i32_96 k0_t11
  let v150 : Index := Scalar.indexCast arg20
  let c48 : Index := 48#32
  ![v150.toNat, 48]
def k0_off81 (k0_t11 : Fin k0_t11_loop.trips) : Fin 2 → Nat :=
  let c0_i32_94 : BitVec 32 := 0#32
  let c1_i32_96 : BitVec 32 := 1#32
  let arg20 : BitVec 32 := Scf.iv c0_i32_94 c1_i32_96 k0_t11
  let v153 : Index := Scalar.indexCast arg20
  let c64 : Index := 64#32
  ![v153.toNat, 64]
def k0_off82 (k0_t11 : Fin k0_t11_loop.trips) : Fin 2 → Nat :=
  let c0_i32_94 : BitVec 32 := 0#32
  let c1_i32_96 : BitVec 32 := 1#32
  let arg20 : BitVec 32 := Scf.iv c0_i32_94 c1_i32_96 k0_t11
  let v156 : Index := Scalar.indexCast arg20
  let c80 : Index := 80#32
  ![v156.toNat, 80]
def k0_off83 (k0_t11 : Fin k0_t11_loop.trips) : Fin 2 → Nat :=
  let c0_i32_94 : BitVec 32 := 0#32
  let c1_i32_96 : BitVec 32 := 1#32
  let arg20 : BitVec 32 := Scf.iv c0_i32_94 c1_i32_96 k0_t11
  let v159 : Index := Scalar.indexCast arg20
  let c96 : Index := 96#32
  ![v159.toNat, 96]
def k0_off84 (k0_t11 : Fin k0_t11_loop.trips) : Fin 2 → Nat :=
  let c0_i32_94 : BitVec 32 := 0#32
  let c1_i32_96 : BitVec 32 := 1#32
  let arg20 : BitVec 32 := Scf.iv c0_i32_94 c1_i32_96 k0_t11
  let v162 : Index := Scalar.indexCast arg20
  let c112 : Index := 112#32
  ![v162.toNat, 112]
@[reducible] def k0_t12_loop : Scf.Loop 32 :=
  let c0_i32_109 : BitVec 32 := 0#32
  let c64_i32_110 : BitVec 32 := 64#32
  let v110 : BitVec 32 := Scalar.addi c0_i32_109 c64_i32_110
  let c1_i32_111 : BitVec 32 := 1#32
  ⟨c0_i32_109, v110, c1_i32_111⟩
def k0_off85 (k0_t12 : Fin k0_t12_loop.trips) : Fin 2 → Nat :=
  let c0_i32_109 : BitVec 32 := 0#32
  let c1_i32_111 : BitVec 32 := 1#32
  let arg20 : BitVec 32 := Scf.iv c0_i32_109 c1_i32_111 k0_t12
  let v141 : Index := Scalar.indexCast arg20
  let c0 : Index := 0#32
  ![v141.toNat, 0]
def k0_off86 (k0_t12 : Fin k0_t12_loop.trips) : Fin 2 → Nat :=
  let c0_i32_109 : BitVec 32 := 0#32
  let c1_i32_111 : BitVec 32 := 1#32
  let arg20 : BitVec 32 := Scf.iv c0_i32_109 c1_i32_111 k0_t12
  let v144 : Index := Scalar.indexCast arg20
  let c16 : Index := 16#32
  ![v144.toNat, 16]
def k0_off87 (k0_t12 : Fin k0_t12_loop.trips) : Fin 2 → Nat :=
  let c0_i32_109 : BitVec 32 := 0#32
  let c1_i32_111 : BitVec 32 := 1#32
  let arg20 : BitVec 32 := Scf.iv c0_i32_109 c1_i32_111 k0_t12
  let v147 : Index := Scalar.indexCast arg20
  let c32 : Index := 32#32
  ![v147.toNat, 32]
def k0_off88 (k0_t12 : Fin k0_t12_loop.trips) : Fin 2 → Nat :=
  let c0_i32_109 : BitVec 32 := 0#32
  let c1_i32_111 : BitVec 32 := 1#32
  let arg20 : BitVec 32 := Scf.iv c0_i32_109 c1_i32_111 k0_t12
  let v150 : Index := Scalar.indexCast arg20
  let c48 : Index := 48#32
  ![v150.toNat, 48]
def k0_off89 (k0_t12 : Fin k0_t12_loop.trips) : Fin 2 → Nat :=
  let c0_i32_109 : BitVec 32 := 0#32
  let c1_i32_111 : BitVec 32 := 1#32
  let arg20 : BitVec 32 := Scf.iv c0_i32_109 c1_i32_111 k0_t12
  let v153 : Index := Scalar.indexCast arg20
  let c64 : Index := 64#32
  ![v153.toNat, 64]
def k0_off90 (k0_t12 : Fin k0_t12_loop.trips) : Fin 2 → Nat :=
  let c0_i32_109 : BitVec 32 := 0#32
  let c1_i32_111 : BitVec 32 := 1#32
  let arg20 : BitVec 32 := Scf.iv c0_i32_109 c1_i32_111 k0_t12
  let v156 : Index := Scalar.indexCast arg20
  let c80 : Index := 80#32
  ![v156.toNat, 80]
def k0_off91 (k0_t12 : Fin k0_t12_loop.trips) : Fin 2 → Nat :=
  let c0_i32_109 : BitVec 32 := 0#32
  let c1_i32_111 : BitVec 32 := 1#32
  let arg20 : BitVec 32 := Scf.iv c0_i32_109 c1_i32_111 k0_t12
  let v159 : Index := Scalar.indexCast arg20
  let c96 : Index := 96#32
  ![v159.toNat, 96]
def k0_off92 (k0_t12 : Fin k0_t12_loop.trips) : Fin 2 → Nat :=
  let c0_i32_109 : BitVec 32 := 0#32
  let c1_i32_111 : BitVec 32 := 1#32
  let arg20 : BitVec 32 := Scf.iv c0_i32_109 c1_i32_111 k0_t12
  let v162 : Index := Scalar.indexCast arg20
  let c112 : Index := 112#32
  ![v162.toNat, 112]
@[reducible] def k0_t13_loop : Scf.Loop 32 :=
  let c0_i32_124 : BitVec 32 := 0#32
  let c64_i32_125 : BitVec 32 := 64#32
  let v124 : BitVec 32 := Scalar.addi c0_i32_124 c64_i32_125
  let c1_i32_126 : BitVec 32 := 1#32
  ⟨c0_i32_124, v124, c1_i32_126⟩
def k0_off93 (k0_t13 : Fin k0_t13_loop.trips) : Fin 2 → Nat :=
  let c0_i32_124 : BitVec 32 := 0#32
  let c1_i32_126 : BitVec 32 := 1#32
  let arg20 : BitVec 32 := Scf.iv c0_i32_124 c1_i32_126 k0_t13
  let v141 : Index := Scalar.indexCast arg20
  let c0 : Index := 0#32
  ![v141.toNat, 0]
def k0_off94 (k0_t13 : Fin k0_t13_loop.trips) : Fin 2 → Nat :=
  let c0_i32_124 : BitVec 32 := 0#32
  let c1_i32_126 : BitVec 32 := 1#32
  let arg20 : BitVec 32 := Scf.iv c0_i32_124 c1_i32_126 k0_t13
  let v144 : Index := Scalar.indexCast arg20
  let c16 : Index := 16#32
  ![v144.toNat, 16]
def k0_off95 (k0_t13 : Fin k0_t13_loop.trips) : Fin 2 → Nat :=
  let c0_i32_124 : BitVec 32 := 0#32
  let c1_i32_126 : BitVec 32 := 1#32
  let arg20 : BitVec 32 := Scf.iv c0_i32_124 c1_i32_126 k0_t13
  let v147 : Index := Scalar.indexCast arg20
  let c32 : Index := 32#32
  ![v147.toNat, 32]
def k0_off96 (k0_t13 : Fin k0_t13_loop.trips) : Fin 2 → Nat :=
  let c0_i32_124 : BitVec 32 := 0#32
  let c1_i32_126 : BitVec 32 := 1#32
  let arg20 : BitVec 32 := Scf.iv c0_i32_124 c1_i32_126 k0_t13
  let v150 : Index := Scalar.indexCast arg20
  let c48 : Index := 48#32
  ![v150.toNat, 48]
def k0_off97 (k0_t13 : Fin k0_t13_loop.trips) : Fin 2 → Nat :=
  let c0_i32_124 : BitVec 32 := 0#32
  let c1_i32_126 : BitVec 32 := 1#32
  let arg20 : BitVec 32 := Scf.iv c0_i32_124 c1_i32_126 k0_t13
  let v153 : Index := Scalar.indexCast arg20
  let c64 : Index := 64#32
  ![v153.toNat, 64]
def k0_off98 (k0_t13 : Fin k0_t13_loop.trips) : Fin 2 → Nat :=
  let c0_i32_124 : BitVec 32 := 0#32
  let c1_i32_126 : BitVec 32 := 1#32
  let arg20 : BitVec 32 := Scf.iv c0_i32_124 c1_i32_126 k0_t13
  let v156 : Index := Scalar.indexCast arg20
  let c80 : Index := 80#32
  ![v156.toNat, 80]
def k0_off99 (k0_t13 : Fin k0_t13_loop.trips) : Fin 2 → Nat :=
  let c0_i32_124 : BitVec 32 := 0#32
  let c1_i32_126 : BitVec 32 := 1#32
  let arg20 : BitVec 32 := Scf.iv c0_i32_124 c1_i32_126 k0_t13
  let v159 : Index := Scalar.indexCast arg20
  let c96 : Index := 96#32
  ![v159.toNat, 96]
def k0_off100 (k0_t13 : Fin k0_t13_loop.trips) : Fin 2 → Nat :=
  let c0_i32_124 : BitVec 32 := 0#32
  let c1_i32_126 : BitVec 32 := 1#32
  let arg20 : BitVec 32 := Scf.iv c0_i32_124 c1_i32_126 k0_t13
  let v162 : Index := Scalar.indexCast arg20
  let c112 : Index := 112#32
  ![v162.toNat, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S131072x128 : Shape := ⟨2, ![131072, 128]⟩
abbrev S131072x127 : Shape := ⟨2, ![131072, 127]⟩
abbrev S_ : Shape := ⟨0, ![]⟩
abbrev S131072 : Shape := ⟨1, ![131072]⟩
abbrev S131072x1 : Shape := ⟨2, ![131072, 1]⟩

abbrev nBuf : Space → Nat
  | .hbm => 34
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x127, .f32⟩
  | .hbm, ⟨2, _⟩ => ⟨S_, .f32⟩
  | .hbm, ⟨3, _⟩ => ⟨S131072, .f32⟩
  | .hbm, ⟨4, _⟩ => ⟨S131072x1, .f32⟩
  | .hbm, ⟨5, _⟩ => ⟨S131072x127, .f32⟩
  | .hbm, ⟨6, _⟩ => ⟨S_, .f32⟩
  | .hbm, ⟨7, _⟩ => ⟨S131072, .f32⟩
  | .hbm, ⟨8, _⟩ => ⟨S_, .f32⟩
  | .hbm, ⟨9, _⟩ => ⟨S131072x1, .f32⟩
  | .hbm, ⟨10, _⟩ => ⟨S131072x128, .f32⟩
  | .hbm, ⟨11, _⟩ => ⟨S131072x128, .f32⟩
  | .hbm, ⟨12, _⟩ => ⟨S_, .f32⟩
  | .hbm, ⟨13, _⟩ => ⟨S131072x128, .f32⟩
  | .hbm, ⟨14, _⟩ => ⟨S131072x128, .f32⟩
  | .hbm, ⟨15, _⟩ => ⟨S_, .f32⟩
  | .hbm, ⟨16, _⟩ => ⟨S131072x128, .f32⟩
  | .hbm, ⟨17, _⟩ => ⟨S131072x128, .f32⟩
  | .hbm, ⟨18, _⟩ => ⟨S_, .f32⟩
  | .hbm, ⟨19, _⟩ => ⟨S131072, .f32⟩
  | .hbm, ⟨20, _⟩ => ⟨S131072, .f32⟩
  | .hbm, ⟨21, _⟩ => ⟨S131072, .f32⟩
  | .hbm, ⟨22, _⟩ => ⟨S131072x1, .f32⟩
  | .hbm, ⟨23, _⟩ => ⟨S_, .f32⟩
  | .hbm, ⟨24, _⟩ => ⟨S131072x1, .f32⟩
  | .hbm, ⟨25, _⟩ => ⟨S131072x1, .f32⟩
  | .hbm, ⟨26, _⟩ => ⟨S_, .f32⟩
  | .hbm, ⟨27, _⟩ => ⟨S131072x1, .f32⟩
  | .hbm, ⟨28, _⟩ => ⟨S131072x1, .f32⟩
  | .hbm, ⟨29, _⟩ => ⟨S131072x127, .f32⟩
  | .hbm, ⟨30, _⟩ => ⟨S131072x1, .f32⟩
  | .hbm, ⟨31, _⟩ => ⟨S131072x127, .f32⟩
  | .hbm, ⟨32, _⟩ => ⟨S131072x127, .f32⟩
  | .hbm, ⟨33, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_cst_4 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_5 : Ref sig .tc := ⟨.hbm, 23, rfl⟩
abbrev main_v16 : Ref sig .tc := ⟨.hbm, 24, rfl⟩
abbrev main_v17 : Ref sig .tc := ⟨.hbm, 25, rfl⟩
abbrev main_cst_6 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Proof.Row.Row.lean ====
/- One row of a chunk: what a trip of the kernel's row loop computes and stores, and that the thirteen row loops are
   one loop over the chunk's two buffers. -/
module

public import proofs.«01_k».proof.Defs
public import proofs.«01_k».proof.Proof.Gen.KernelIdeal.Skeleton

@[expose] public section

noncomputable section

namespace Cert.Proof.Row

open Cert.KernelIdeal Cert.KernelIdeal.Gen
open Idealize.ShloMosaic Idealize.SL.Sem

variable {F : FTy → Type} [FloatOps F]

/-- The sixteen lane numbers. -/
abbrev lanes : IVec S16 32 := iota .scVector S16 32 [0] iota_S16_d0_w32_scVector
/-- Minus infinity, which stands in for column 0 in the row's maximum. -/
abbrev negInf : F .f32 := Scalar.ofBits .f32 0xFF800000#32

/-- The eight sixteen-lane pieces of a row. -/
abbrev Pieces (F : FTy → Type) : Type := Fin 8 → Vec F S1x16 .f32

/-- The lane-wise maximum of the pieces, and the first exchange between lanes. -/
def fold (v : Pieces F) : FVec F S16 .f32 := k0_pay9 lanes k0_pay269 negInf (v 0) (v 1) (v 2) (v 3) (v 4) (v 5) (v 6) (v 7)
/-- The row's normalising factor, in every lane. -/
def scale (v : Pieces F) : FVec F S16 .f32 := k0_pay12 lanes (fold v) (k0_pay10 lanes) 0#32
/-- What is added to each element of the row before it is clamped, in every lane. -/
def shift (v : Pieces F) : FVec F S16 .f32 := k0_pay13 lanes (fold v) (k0_pay10 lanes) 0#32
/-- What the row loop stores of the first piece. -/
def first (v : Pieces F) : FVec F S1x16 .f32 :=
  k0_pay16 k0_pay269 (k0_pay14 lanes (k0_pay1 (v 0)) (fold v) (k0_pay10 lanes) 0#32) (k0_pay15 (k0_pay1 (v 0))) (Scalar.ofBits .f32 0x3F800000#32)
/-- What the row loop stores of each later piece. -/
def later (v : Pieces F) (k : Fin 8) : FVec F S1x16 .f32 := k0_pay17 (k0_pay2 (v k)) (scale v) (shift v)
/-- What the row loop stores of piece `k`. -/
def piece (v : Pieces F) (k : Fin 8) : FVec F S1x16 .f32 := if k = 0 then first v else later v k

/-- A trip of the row loop: the eight pieces of row `r` loaded from `a`, what is computed of them stored to `b`. -/
def rowBody (i : grid0.Coords) (a b : Memref sig .scVector .vmem S64x128 .f32) :
    Fin k0_t1_loop.trips → BitVec 32 → Prog (TpuEff nD τ sig (Elt F) Λ₀ (.scVector ((i 0).castLE hcore0) ((i 1).castLE hsub0))) (BitVec 32) :=
  fun r _ => do
    let v0 : Vec F S1x16 .f32 ← Prog.lift (.load a (Rect.unit (s := S64x128) (k0_off2 r) S1x16.size (k0_off2_inb r)).toLoadRect (View.loadsAt_vmem h_S1x16))
    let v1 : Vec F S1x16 .f32 ← Prog.lift (.load a (Rect.unit (s := S64x128) (k0_off3 r) S1x16.size (k0_off3_inb r)).toLoadRect (View.loadsAt_vmem h_S1x16))
    let v2 : Vec F S1x16 .f32 ← Prog.lift (.load a (Rect.unit (s := S64x128) (k0_off4 r) S1x16.size (k0_off4_inb r)).toLoadRect (View.loadsAt_vmem h_S1x16))
    let v3 : Vec F S1x16 .f32 ← Prog.lift (.load a (Rect.unit (s := S64x128) (k0_off5 r) S1x16.size (k0_off5_inb r)).toLoadRect (View.loadsAt_vmem h_S1x16))
    let v4 : Vec F S1x16 .f32 ← Prog.lift (.load a (Rect.unit (s := S64x128) (k0_off6 r) S1x16.size (k0_off6_inb r)).toLoadRect (View.loadsAt_vmem h_S1x16))
    let v5 : Vec F S1x16 .f32 ← Prog.lift (.load a (Rect.unit (s := S64x128) (k0_off7 r) S1x16.size (k0_off7_inb r)).toLoadRect (View.loadsAt_vmem h_S1x16))
    let v6 : Vec F S1x16 .f32 ← Prog.lift (.load a (Rect.unit (s := S64x128) (k0_off8 r) S1x16.size (k0_off8_inb r)).toLoadRect (View.loadsAt_vmem h_S1x16))
    let v7 : Vec F S1x16 .f32 ← Prog.lift (.load a (Rect.unit (s := S64x128) (k0_off9 r) S1x16.size (k0_off9_inb r)).toLoadRect (View.loadsAt_vmem h_S1x16))
    let _ : Vec F S1x16 .f32 ← Prog.lift (.load b (Rect.unit (s := S64x128) (k0_off2 r) S1x16.size (k0_off2_inb r)).toLoadRect (View.loadsAt_vmem h_S1x16))
    Prog.lift (.store b (Rect.unit (s := S64x128) (k0_off2 r) S1x16.size (k0_off2_inb r)) (first ![v0, v1, v2, v3, v4, v5, v6, v7]) Finset.univ (View.stores_vmem_bits_univ h_S1x16 rfl) (.inl rfl))
    let _ : Vec F S1x16 .f32 ← Prog.lift (.load b (Rect.unit (s := S64x128) (k0_off3 r) S1x16.size (k0_off3_inb r)).toLoadRect (View.loadsAt_vmem h_S1x16))
    Prog.lift (.store b (Rect.unit (s := S64x128) (k0_off3 r) S1x16.size (k0_off3_inb r)) (later ![v0, v1, v2, v3, v4, v5, v6, v7] 1) Finset.univ (View.stores_vmem_bits_univ h_S1x16 rfl) (.inl rfl))
    let _ : Vec F S1x16 .f32 ← Prog.lift (.load b (Rect.unit (s := S64x128) (k0_off4 r) S1x16.size (k0_off4_inb r)).toLoadRect (View.loadsAt_vmem h_S1x16))
    Prog.lift (.store b (Rect.unit (s := S64x128) (k0_off4 r) S1x16.size (k0_off4_inb r)) (later ![v0, v1, v2, v3, v4, v5, v6, v7] 2) Finset.univ (View.stores_vmem_bits_univ h_S1x16 rfl) (.inl rfl))
    let _ : Vec F S1x16 .f32 ← Prog.lift (.load b (Rect.unit (s := S64x128) (k0_off5 r) S1x16.size (k0_off5_inb r)).toLoadRect (View.loadsAt_vmem h_S1x16))
    Prog.lift (.store b (Rect.unit (s := S64x128) (k0_off5 r) S1x16.size (k0_off5_inb r)) (later ![v0, v1, v2, v3, v4, v5, v6, v7] 3) Finset.univ (View.stores_vmem_bits_univ h_S1x16 rfl) (.inl rfl))
    let _ : Vec F S1x16 .f32 ← Prog.lift (.load b (Rect.unit (s := S64x128) (k0_off6 r) S1x16.size (k0_off6_inb r)).toLoadRect (View.loadsAt_vmem h_S1x16))
    Prog.lift (.store b (Rect.unit (s := S64x128) (k0_off6 r) S1x16.size (k0_off6_inb r)) (later ![v0, v1, v2, v3, v4, v5, v6, v7] 4) Finset.univ (View.stores_vmem_bits_univ h_S1x16 rfl) (.inl rfl))
    let _ : Vec F S1x16 .f32 ← Prog.lift (.load b (Rect.unit (s := S64x128) (k0_off7 r) S1x16.size (k0_off7_inb r)).toLoadRect (View.loadsAt_vmem h_S1x16))
    Prog.lift (.store b (Rect.unit (s := S64x128) (k0_off7 r) S1x16.size (k0_off7_inb r)) (later ![v0, v1, v2, v3, v4, v5, v6, v7] 5) Finset.univ (View.stores_vmem_bits_univ h_S1x16 rfl) (.inl rfl))
    let _ : Vec F S1x16 .f32 ← Prog.lift (.load b (Rect.unit (s := S64x128) (k0_off8 r) S1x16.size (k0_off8_inb r)).toLoadRect (View.loadsAt_vmem h_S1x16))
    Prog.lift (.store b (Rect.unit (s := S64x128) (k0_off8 r) S1x16.size (k0_off8_inb r)) (later ![v0, v1, v2, v3, v4, v5, v6, v7] 6) Finset.univ (View.stores_vmem_bits_univ h_S1x16 rfl) (.inl rfl))
    let _ : Vec F S1x16 .f32 ← Prog.lift (.load b (Rect.unit (s := S64x128) (k0_off9 r) S1x16.size (k0_off9_inb r)).toLoadRect (View.loadsAt_vmem h_S1x16))
    Prog.lift (.store b (Rect.unit (s := S64x128) (k0_off9 r) S1x16.size (k0_off9_inb r)) (later ![v0, v1, v2, v3, v4, v5, v6, v7] 7) Finset.univ (View.stores_vmem_bits_univ h_S1x16 rfl) (.inl rfl))
    pure 0#32

/-- The row loop over the chunk's two buffers. -/
def rows (i : grid0.Coords) (a b : Memref sig .scVector .vmem S64x128 .f32) :
    Prog (TpuEff nD τ sig (Elt F) Λ₀ (.scVector ((i 0).castLE hcore0) ((i 1).castLE hsub0))) (BitVec 32) :=
  Scf.Loop.for k0_t1_loop k0_t1_ok 0#32 (rowBody i a b)

section Loops

variable (i : grid0.Coords)
variable (arg2 : Memref sig .scVector .hbm S131072x128 .f32) (harg2 : arg2.IsWhole) (arg3 : Memref sig .scVector .hbm S131072x128 .f32) (harg3 : arg3.IsWhole) (arg4 : Memref sig .scVector .vmem S64x128 .f32) (harg4 : arg4.IsWhole) (arg5 : Memref sig .scVector .vmem S64x128 .f32) (harg5 : arg5.IsWhole) (arg6 : Memref sig .scVector .vmem S64x128 .f32) (harg6 : arg6.IsWhole) (arg7 : Memref sig .scVector .vmem S64x128 .f32) (harg7 : arg7.IsWhole) (arg8 : Memref sig .scVector .vmem S64x128 .f32) (harg8 : arg8.IsWhole) (arg9 : Memref sig .scVector .vmem S64x128 .f32) (harg9 : arg9.IsWhole) (arg10 : Memref sig .scVector .vmem S64x128 .f32) (harg10 : arg10.IsWhole) (arg11 : Memref sig .scVector .vmem S64x128 .f32) (harg11 : arg11.IsWhole) (arg12 : DmaSems sig S_) (arg13 : DmaSems sig S_) (arg14 : DmaSems sig S_) (arg15 : DmaSems sig S_) (arg16 : DmaSems sig S_) (arg17 : DmaSems sig S_) (arg18 : DmaSems sig S_) (arg19 : DmaSems sig S_)

/-- Loop 1 is the row loop over the buffers of slot 0. -/
theorem loop1 : Scf.Loop.for k0_t1_loop k0_t1_ok 0#32 (k0_t1_body (F := F) i arg2 harg2 arg3 harg3 arg4 harg4 arg5 harg5 arg6 harg6 arg7 harg7 arg8 harg8 arg9 harg9 arg10 harg10 arg11 harg11 arg12 arg13 arg14 arg15 arg16 arg17 arg18 arg19 lanes negInf)
    = rows i arg4 arg8 := rfl

/-- Loop 2 is the row loop over the buffers of slot 1. -/
theorem loop2 (v2 : BitVec 32) : Scf.Loop.for k0_t2_loop k0_t2_ok 0#32 (k0_t2_body (F := F) i arg2 harg2 arg3 harg3 arg4 harg4 arg5 harg5 arg6 harg6 arg7 harg7 arg8 harg8 arg9 harg9 arg10 harg10 arg11 harg11 arg12 arg13 arg14 arg15 arg16 arg17 arg18 arg19 v2 lanes negInf)
    = rows i arg5 arg9 := rfl

/-- Loop 3 is the row loop over the buffers of slot 2. -/
theorem loop3 (v2 : BitVec 32) : Scf.Loop.for k0_t3_loop k0_t3_ok 0#32 (k0_t3_body (F := F) i arg2 harg2 arg3 harg3 arg4 harg4 arg5 harg5 arg6 harg6 arg7 harg7 arg8 harg8 arg9 harg9 arg10 harg10 arg11 harg11 arg12 arg13 arg14 arg15 arg16 arg17 arg18 arg19 v2 lanes negInf)
    = rows i arg6 arg10 := rfl

/-- Loop 4 is the row loop over the buffers of slot 3. -/
theorem loop4 (v2 : BitVec 32) : Scf.Loop.for k0_t4_loop k0_t4_ok 0#32 (k0_t4_body (F := F) i arg2 harg2 arg3 harg3 arg4 harg4 arg5 harg5 arg6 harg6 arg7 harg7 arg8 harg8 arg9 harg9 arg10 harg10 arg11 harg11 arg12 arg13 arg14 arg15 arg16 arg17 arg18 arg19 v2 lanes negInf)
    = rows i arg7 arg11 := rfl

/-- Loop 6 is the row loop over the buffers of slot 0. -/
theorem loop6 (v2 w w' : BitVec 32) (j : Fin k0_t5_loop.trips) : Scf.Loop.for k0_t6_loop k0_t6_ok 0#32 (k0_t6_body (F := F) i arg2 harg2 arg3 harg3 arg4 harg4 arg5 harg5 arg6 harg6 arg7 harg7 arg8 harg8 arg9 harg9 arg10 harg10 arg11 harg11 arg12 arg13 arg14 arg15 arg16 arg17 arg18 arg19 v2 w w' j lanes negInf)
    = rows i arg4 arg8 := rfl

/-- Loop 7 is the row loop over the buffers of slot 1. -/
theorem loop7 (v2 w w' : BitVec 32) (j : Fin k0_t5_loop.trips) : Scf.Loop.for k0_t7_loop k0_t7_ok 0#32 (k0_t7_body (F := F) i arg2 harg2 arg3 harg3 arg4 harg4 arg5 harg5 arg6 harg6 arg7 harg7 arg8 harg8 arg9 harg9 arg10 harg10 arg11 harg11 arg12 arg13 arg14 arg15 arg16 arg17 arg18 arg19 v2 j w w' lanes negInf)
    = rows i arg5 arg9 := rfl

/-- Loop 8 is the row loop over the buffers of slot 2. -/
theorem loop8 (v2 w w' : BitVec 32) (j : Fin k0_t5_loop.trips) : Scf.Loop.for k0_t8_loop k0_t8_ok 0#32 (k0_t8_body (F := F) i arg2 harg2 arg3 harg3 arg4 harg4 arg5 harg5 arg6 harg6 arg7 harg7 arg8 harg8 arg9 harg9 arg10 harg10 arg11 harg11 arg12 arg13 arg14 arg15 arg16 arg17 arg18 arg19 v2 j w w' lanes k0_pay177 negInf)
    = rows i arg6 arg10 := rfl

/-- Loop 9 is the row loop over the buffers of slot 3. -/
theorem loop9 (v2 w w' : BitVec 32) (j : Fin k0_t5_loop.trips) : Scf.Loop.for k0_t9_loop k0_t9_ok 0#32 (k0_t9_body (F := F) i arg2 harg2 arg3 harg3 arg4 harg4 arg5 harg5 arg6 harg6 arg7 harg7 arg8 harg8 arg9 harg9 arg10 harg10 arg11 harg11 arg12 arg13 arg14 arg15 arg16 arg17 arg18 arg19 v2 j w w' lanes k0_pay177 negInf lanes negInf)
    = rows i arg7 arg11 := rfl

/-- Loop 10 is the row loop over the buffers of slot 0. -/
theorem loop10 (v2 : BitVec 32) : Scf.Loop.for k0_t10_loop k0_t10_ok 0#32 (k0_t10_body (F := F) i arg2 harg2 arg3 harg3 arg4 harg4 arg5 harg5 arg6 harg6 arg7 harg7 arg8 harg8 arg9 harg9 arg10 harg10 arg11 harg11 arg12 arg13 arg14 arg15 arg16 arg17 arg18 arg19 v2 lanes negInf)
    = rows i arg4 arg8 := rfl

/-- Loop 11 is the row loop over the buffers of slot 1. -/
theorem loop11 (v2 : BitVec 32) : Scf.Loop.for k0_t11_loop k0_t11_ok 0#32 (k0_t11_body (F := F) i arg2 harg2 arg3 harg3 arg4 harg4 arg5 harg5 arg6 harg6 arg7 harg7 arg8 harg8 arg9 harg9 arg10 harg10 arg11 harg11 arg12 arg13 arg14 arg15 arg16 arg17 arg18 arg19 v2 lanes negInf)
    = rows i arg5 arg9 := rfl

/-- Loop 12 is the row loop over the buffers of slot 2. -/
theorem loop12 (v2 : BitVec 32) : Scf.Loop.for k0_t12_loop k0_t12_ok 0#32 (k0_t12_body (F := F) i arg2 harg2 arg3 harg3 arg4 harg4 arg5 harg5 arg6 harg6 arg7 harg7 arg8 harg8 arg9 harg9 arg10 harg10 arg11 harg11 arg12 arg13 arg14 arg15 arg16 arg17 arg18 arg19 v2 lanes negInf)
    = rows i arg6 arg10 := rfl

/-- Loop 13 is the row loop over the buffers of slot 3. -/
theorem loop13 (v2 : BitVec 32) : Scf.Loop.for k0_t13_loop k0_t13_ok 0#32 (k0_t13_body (F := F) i arg2 harg2 arg3 harg3 arg4 harg4 arg5 harg5 arg6 harg6 arg7 harg7 arg8 harg8 arg9 harg9 arg10 harg10 arg11 harg11 arg12 arg13 arg14 arg15 arg16 arg17 arg18 arg19 v2 lanes negInf)
    = rows i arg7 arg11 := rfl

end Loops

end Cert.Proof.Row

end
-- ==== Proof.Row.Value.lean ====
/- What the row loop leaves of a row, of a chunk and of the whole array, as functions of what it read. -/
module

public import proofs.«01_k».proof.Proof.Row.Row
public import Idealize.ShloMosaic.Lib.ValueIdxCore

@[expose] public section

noncomputable section

namespace Cert.Proof.Row

open Cert.KernelIdeal Cert.KernelIdeal.Gen
open Idealize.ShloMosaic

variable {F : FTy → Type} [FloatOps F]

/-- The index of row `p` and column `q`. -/
abbrev at2 {n k : ℕ} (p : Fin n) (q : Fin k) : (⟨2, ![n, k]⟩ : Shape).Idx := fun | ⟨0, _⟩ => p | ⟨1, _⟩ => q

omit [FloatOps F] in
/-- An index is the one of its row and column. -/
theorem at2_eta {n k : ℕ} (i : (⟨2, ![n, k]⟩ : Shape).Idx) : at2 (i 0) (i 1) = i := by
  funext a
  match a with
  | ⟨0, _⟩ => rfl
  | ⟨1, _⟩ => rfl

/-- A row cut into its eight pieces. -/
def cut (ρ : Fin 128 → Elt F .f32) : Pieces F := fun k x => ρ ⟨16 * k.val + (x 1).val, by have := k.isLt; have h : (x 1).val < 16 := (x 1).isLt; omega⟩

/-- What the row loop makes of a row. -/
def rowOut (ρ : Fin 128 → Elt F .f32) (j : Fin 128) : Elt F .f32 :=
  piece (cut ρ) ⟨j.val / 16, by have := j.isLt; omega⟩ (at2 (n := 1) (k := 16) 0 ⟨j.val % 16, Nat.mod_lt _ (by decide)⟩)

/-- What the row loop makes of an array of any number of rows. -/
def rowsOut {n : ℕ} (X : (⟨2, ![n, 128]⟩ : Shape).Idx → Elt F .f32) : (⟨2, ![n, 128]⟩ : Shape).Idx → Elt F .f32 :=
  fun y => rowOut (fun j => X (at2 (y 0) j)) (y 1)

/-- A row's element, found in the piece that holds it. -/
theorem rowOut_piece (ρ : Fin 128 → Elt F .f32) (k : Fin 8) (x : S1x16.Idx) (j : Fin 128) (hj : j.val = 16 * k.val + (x 1).val) :
    rowOut ρ j = piece (cut ρ) k x := by
  have hx : (x 1).val < 16 := (x 1).isLt
  have hk : (⟨j.val / 16, by have := j.isLt; omega⟩ : Fin 8) = k := Fin.ext (by show j.val / 16 = k.val; omega)
  have hx' : at2 (n := 1) (k := 16) 0 ⟨j.val % 16, Nat.mod_lt _ (by decide)⟩ = x := by
    funext a
    match a with
    | ⟨0, _⟩ => exact Subsingleton.elim (α := Fin 1) _ _
    | ⟨1, _⟩ => exact Fin.ext (by show j.val % 16 = (x 1).val; omega)
  unfold rowOut
  rw [hk, hx']

end Cert.Proof.Row

end
-- ==== Proof.Row.Base.lean ====
/- The kernel as the SparseCore launch theorem sees it: its labels, its configuration, and the resource algebra that
   the proof is carried out in. -/
module

public import proofs.«01_k».proof.Proof.Row.Value
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Row

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI Idealize.SL.Sem
open Idealize.ShloMosaic.Rounds

variable {F : FTy → Type}

/-- The labels of the whole program. -/
abbrev ΛP : Labels := Pipeline.Sig Λ₀ (Fin 0) fun p => (pcfgs (F := F) p).Adm
/-- The SparseCore configuration of the program's one call. -/
abbrev K : SparseCore.Cfg τ sig (ΛP (F := F)) 1 := sc (F := F)
/-- The program's definitions. -/
abbrev D [FloatOps F] : Defs nD τ sig (Elt F) (ΛP (F := F)) := Pipeline.defs pcfgs defs₀
/-- No loop of the kernel needs a variant. -/
abbrev 𝒱₀ : Variants := Variants.none
/-- The same, at the whole program's labels. -/
abbrev 𝒱 : Variants := 𝒱₀.lift
/-- The one value of the variant. -/
abbrev v₀ : 𝒱.V := Sum.inl none

/-- The call's sixteen vector subcores on each core. -/
theorem nSub_zero : (K (F := F)).nSub 0 = 16 := rfl
/-- The call's two cores. -/
theorem nCore_zero : (K (F := F)).nCore 0 = 2 := rfl

/-- The handshake's semaphores are four different ones, none of them scoped. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The rounds of the handshakes. -/
abbrev UH : Type := URounds (GSem nD τ sig) ℕ
/-- The rounds and the transfers' counters. -/
abbrev UU : Type := UH × Counters
/-- The resource algebra. -/
abbrev 𝕄 (F : FTy → Type) : Type := MT nD τ sig (HIx 1) (Elt F) ℕ UU ℕ
/-- The rounds within it. -/
abbrev EH : Emb UH (𝕄 F) := embL

/-- The core of a task. -/
abbrev cV (L : grid0.Coords) : Fin τ.nSC := (L 0).castLE hcore0
/-- The subcore of a task. -/
abbrev jV (L : grid0.Coords) : Fin τ.nSub := (L 1).castLE hsub0
/-- The thread that runs a task. -/
abbrev thr (d : Dev nD) (L : grid0.Coords) : Thread nD τ := V d (cV L) (jV L)

end Cert.Proof.Row

end
-- ==== Proof.Row.Loop.lean ====
/- The row loop, run: from a chunk in one buffer it leaves what it makes of every row in the other. -/
module

public import proofs.«01_k».proof.Proof.Row.Base

@[expose] public section

noncomputable section

namespace Cert.Proof.Row

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (d : Dev nD) (L : grid0.Coords)

section Ops

variable {s : Shape} (a : Memref sig .scVector .vmem s .f32) (r : Rect s)

/-- A load of a buffer held whole. -/
theorem wp_ld {hl : a.view.LoadsAt r.toLoadRect} {f : Buf (Elt F) (a.view.loc (thr d L))} {Q : Vec F r.shape .f32 → sProp (𝕄 F)} :
    (a.view.loc (thr d L) ↦{fullShare} f : sProp (𝕄 F))
      ⊢ iprop(((a.view.loc (thr d L) ↦{fullShare} f) -∗ Q ((a.access r).read (Elt F) f))
        -∗ wp frame (wpE (defs₀ (F := F)) 𝒱₀ (thr d L) none) Set.univ (Prog.lift (.load a r.toLoadRect hl)) Q) := by
  iintro Ha HQ
  iapply (wp_load_rect 𝒱₀ (thr d L) none Set.univ (m := a) (r := r) (Finset.subset_univ _)) $$ Ha
  iintro Ha
  rw [wp_ret]
  imodintro
  iapply HQ $$ Ha

/-- A store to a buffer held whole, whose contents are written as the pieces already stored. -/
theorem wp_st {w : Vec F r.shape .f32} {hx : (a.access r).Stores Finset.univ} {hm : Finset.univ = Finset.univ ∨ ∀ a, r.stride a = 1}
    {f : Buf (Elt F) (a.view.loc (thr d L))} {ps : List (View.Piece (Elt F) s .f32)} {Q : PUnit → sProp (𝕄 F)} :
    (a.view.loc (thr d L) ↦{fullShare} a.view.writes (Elt F) f ps : sProp (𝕄 F))
      ⊢ iprop(((a.view.loc (thr d L) ↦{fullShare} a.view.writes (Elt F) f (⟨r, w⟩ :: ps)) -∗ Q ⟨⟩)
        -∗ wp frame (wpE (defs₀ (F := F)) 𝒱₀ (thr d L) none) Set.univ (Prog.lift (.store a r w Finset.univ hx hm)) Q) := by
  iintro Ha HQ
  iapply (wp_store_writes 𝒱₀ (thr d L) none Set.univ (m := a) (r := r) (w := w) (Finset.subset_univ _)) $$ Ha
  iintro Ha
  rw [wp_ret]
  imodintro
  iapply HQ $$ Ha

end Ops

/-! ## The rectangles of a row -/

/-- The sixteen columns of row `r` that piece `k` is. -/
def rect (r : Fin k0_t1_loop.trips) (k : Fin 8) : Rect S64x128 :=
  match k with
  | 0 => Rect.unit (s := S64x128) (k0_off2 r) S1x16.size (k0_off2_inb r)
  | 1 => Rect.unit (s := S64x128) (k0_off3 r) S1x16.size (k0_off3_inb r)
  | 2 => Rect.unit (s := S64x128) (k0_off4 r) S1x16.size (k0_off4_inb r)
  | 3 => Rect.unit (s := S64x128) (k0_off5 r) S1x16.size (k0_off5_inb r)
  | 4 => Rect.unit (s := S64x128) (k0_off6 r) S1x16.size (k0_off6_inb r)
  | 5 => Rect.unit (s := S64x128) (k0_off7 r) S1x16.size (k0_off7_inb r)
  | 6 => Rect.unit (s := S64x128) (k0_off8 r) S1x16.size (k0_off8_inb r)
  | 7 => Rect.unit (s := S64x128) (k0_off9 r) S1x16.size (k0_off9_inb r)

/-- Where a piece begins. -/
theorem rect_off (r : Fin k0_t1_loop.trips) (k : Fin 8) : (rect r k).off = ![r.val, 16 * k.val] := by
  match k with
  | 0 => exact k0_off2_eq r
  | 1 => exact k0_off3_eq r
  | 2 => exact k0_off4_eq r
  | 3 => exact k0_off5_eq r
  | 4 => exact k0_off6_eq r
  | 5 => exact k0_off7_eq r
  | 6 => exact k0_off8_eq r
  | 7 => exact k0_off9_eq r

/-- A piece is one row of sixteen columns; -/
theorem rect_size (r : Fin k0_t1_loop.trips) (k : Fin 8) : (rect r k).size = S1x16.size := by
  match k with
  | 0 | 1 | 2 | 3 | 4 | 5 | 6 | 7 => rfl

/-- next to one another. -/
theorem rect_stride (r : Fin k0_t1_loop.trips) (k : Fin 8) : (rect r k).stride = fun _ => 1 := by
  match k with
  | 0 | 1 | 2 | 3 | 4 | 5 | 6 | 7 => rfl

/-- A place is in a piece when it is in its row and in its sixteen columns. -/
theorem mem_rect (r : Fin k0_t1_loop.trips) (k : Fin 8) (y : S64x128.Idx) :
    y ∈ (rect r k).set ↔ (y 0).val = r.val ∧ (y 1).val / 16 = k.val := by
  rw [LoadRect.mem_set]
  simp only [rect_off, rect_size, rect_stride]
  constructor
  · intro h
    obtain ⟨j, hj, e⟩ := h 0
    obtain ⟨j', hj', e'⟩ := h 1
    have hj : j < 1 := hj
    have hj' : j' < 16 := hj'
    have e : (y 0).val = r.val + 1 * j := e
    have e' : (y 1).val = 16 * k.val + 1 * j' := e'
    omega
  · rintro ⟨h, h'⟩ a
    match a with
    | ⟨0, _⟩ => exact ⟨0, Nat.one_pos, by show (y 0).val = r.val + 1 * 0; omega⟩
    | ⟨1, _⟩ => exact ⟨(y 1).val % 16, Nat.mod_lt _ (show 0 < 16 by decide), by show (y 1).val = 16 * k.val + 1 * ((y 1).val % 16); omega⟩

/-! ## A trip, and the loop -/

/-- What the buffer `a` at contents `f` holds of row `r`, cut into pieces. -/
abbrev got (a : Memref sig .scVector .vmem S64x128 .f32) (f : Buf (Elt F) (a.view.loc (thr d L))) (r : Fin k0_t1_loop.trips) : Pieces F :=
  ![(a.access (rect r 0)).read (Elt F) f, (a.access (rect r 1)).read (Elt F) f, (a.access (rect r 2)).read (Elt F) f,
    (a.access (rect r 3)).read (Elt F) f, (a.access (rect r 4)).read (Elt F) f, (a.access (rect r 5)).read (Elt F) f,
    (a.access (rect r 6)).read (Elt F) f, (a.access (rect r 7)).read (Elt F) f]

/-- The eight stores of a trip, the last first. -/
abbrev stored (v : Pieces F) (r : Fin k0_t1_loop.trips) : List (View.Piece (Elt F) S64x128 .f32) :=
  [⟨rect r 7, later v 7⟩, ⟨rect r 6, later v 6⟩, ⟨rect r 5, later v 5⟩, ⟨rect r 4, later v 4⟩,
    ⟨rect r 3, later v 3⟩, ⟨rect r 2, later v 2⟩, ⟨rect r 1, later v 1⟩, ⟨rect r 0, first v⟩]

/-- A trip of the loop. -/
theorem wp_rowBody (a b : Memref sig .scVector .vmem S64x128 .f32) (r : Fin k0_t1_loop.trips) (w : BitVec 32)
    (f : Buf (Elt F) (a.view.loc (thr d L))) (g : Buf (Elt F) (b.view.loc (thr d L))) {Q : BitVec 32 → sProp (𝕄 F)} :
    iprop((a.view.loc (thr d L) ↦{fullShare} f) ∗ (b.view.loc (thr d L) ↦{fullShare} g))
      ⊢ iprop((((a.view.loc (thr d L) ↦{fullShare} f) ∗ (b.view.loc (thr d L) ↦{fullShare} b.view.writes (Elt F) g (stored (got d L a f r) r))) -∗ ∀ w', Q w')
        -∗ wp frame (wpE (defs₀ (F := F)) 𝒱₀ (thr d L) none) Set.univ (rowBody L a b r w) Q) := by
  unfold rowBody
  simp only [wp_bind, wp_pure]
  iintro ⟨Ha, Hb⟩ HQ
  iapply (wp_ld d L a _) $$ Ha; iintro Ha
  iapply (wp_ld d L a _) $$ Ha; iintro Ha
  iapply (wp_ld d L a _) $$ Ha; iintro Ha
  iapply (wp_ld d L a _) $$ Ha; iintro Ha
  iapply (wp_ld d L a _) $$ Ha; iintro Ha
  iapply (wp_ld d L a _) $$ Ha; iintro Ha
  iapply (wp_ld d L a _) $$ Ha; iintro Ha
  iapply (wp_ld d L a _) $$ Ha; iintro Ha
  ihave Hb := (show (b.view.loc (thr d L) ↦{fullShare} g : sProp (𝕄 F)) ⊢ b.view.loc (thr d L) ↦{fullShare} b.view.writes (Elt F) g [] from .rfl) $$ Hb
  iapply (wp_ld d L b _) $$ Hb; iintro Hb; iapply (wp_st d L b _) $$ Hb; iintro Hb
  iapply (wp_ld d L b _) $$ Hb; iintro Hb; iapply (wp_st d L b _) $$ Hb; iintro Hb
  iapply (wp_ld d L b _) $$ Hb; iintro Hb; iapply (wp_st d L b _) $$ Hb; iintro Hb
  iapply (wp_ld d L b _) $$ Hb; iintro Hb; iapply (wp_st d L b _) $$ Hb; iintro Hb
  iapply (wp_ld d L b _) $$ Hb; iintro Hb; iapply (wp_st d L b _) $$ Hb; iintro Hb
  iapply (wp_ld d L b _) $$ Hb; iintro Hb; iapply (wp_st d L b _) $$ Hb; iintro Hb
  iapply (wp_ld d L b _) $$ Hb; iintro Hb; iapply (wp_st d L b _) $$ Hb; iintro Hb
  iapply (wp_ld d L b _) $$ Hb; iintro Hb; iapply (wp_st d L b _) $$ Hb; iintro Hb
  imodintro
  ihave HQ := HQ $$ [Ha Hb]
  · isplitl [Ha]; · iexact Ha
    iexact Hb
  iapply HQ

/-- A piece is one row. -/
theorem rect_row (r : Fin k0_t1_loop.trips) (k : Fin 8) (x : (rect r k).shape.Idx) : (x 0).val = 0 := by
  match k with
  | 0 | 1 | 2 | 3 | 4 | 5 | 6 | 7 => exact Nat.lt_one_iff.mp (x 0).isLt

/-- A trip stores every piece. -/
theorem stored_rect (v : Pieces F) (r : Fin k0_t1_loop.trips) (k : Fin 8) : ∃ p ∈ stored v r, p.1 = rect r k := by
  match k with
  | 0 => exact ⟨_, .tail _ (.tail _ (.tail _ (.tail _ (.tail _ (.tail _ (.tail _ (.head _))))))), rfl⟩
  | 1 => exact ⟨_, .tail _ (.tail _ (.tail _ (.tail _ (.tail _ (.tail _ (.head _)))))), rfl⟩
  | 2 => exact ⟨_, .tail _ (.tail _ (.tail _ (.tail _ (.tail _ (.head _))))), rfl⟩
  | 3 => exact ⟨_, .tail _ (.tail _ (.tail _ (.tail _ (.head _)))), rfl⟩
  | 4 => exact ⟨_, .tail _ (.tail _ (.tail _ (.head _))), rfl⟩
  | 5 => exact ⟨_, .tail _ (.tail _ (.head _)), rfl⟩
  | 6 => exact ⟨_, .tail _ (.head _), rfl⟩
  | 7 => exact ⟨_, .head _, rfl⟩

/-- What row `r` of the buffer reads, piece by piece, is that row of its contents, cut. -/
theorem got_eq (a : Memref sig .scVector .vmem S64x128 .f32) (f : Buf (Elt F) (a.view.loc (thr d L))) (r : Fin k0_t1_loop.trips) (p : Fin 64) (hp : p.val = r.val) :
    got d L a f r = cut fun j => a.view.read (Elt F) f (at2 p j) := by
  have key : ∀ (k : Fin 8) (x : (rect r k).shape.Idx) (n : ℕ) (hn : n < 128) (_ : n = 16 * k.val + (x 1).val),
      (a.access (rect r k)).read (Elt F) f x = a.view.read (Elt F) f (at2 p ⟨n, hn⟩) := by
    intro k x n hn h
    have hx := rect_row r k x
    have e : (rect r k).emb x = at2 p ⟨n, hn⟩ := by
      refine (rect r k).emb_eq_of_coords x _ fun b => ?_
      rw [rect_off, rect_stride]
      match b with
      | ⟨0, _⟩ => show p.val = r.val + 1 * (x 0).val; omega
      | ⟨1, _⟩ => show n = 16 * k.val + 1 * (x 1).val; omega
    rw [← e]; rfl
  funext k
  match k with
  | 0 => funext x; exact key 0 x _ _ rfl
  | 1 => funext x; exact key 1 x _ _ rfl
  | 2 => funext x; exact key 2 x _ _ rfl
  | 3 => funext x; exact key 3 x _ _ rfl
  | 4 => funext x; exact key 4 x _ _ rfl
  | 5 => funext x; exact key 5 x _ _ rfl
  | 6 => funext x; exact key 6 x _ _ rfl
  | 7 => funext x; exact key 7 x _ _ rfl

/-- A trip writes its row as the loop makes it; -/
theorem read_stored_hit (b : Memref sig .scVector .vmem S64x128 .f32) (g : Buf (Elt F) (b.view.loc (thr d L))) (X : S64x128.Idx → Elt F .f32)
    (r : Fin k0_t1_loop.trips) (y : S64x128.Idx) (hy : (y 0).val = r.val) :
    b.view.read (Elt F) (b.view.writes (Elt F) g (stored (cut fun j => X (at2 (y 0) j)) r)) y = rowsOut X y := by
  have key : ∀ (k : Fin 8) (x : (rect r k).shape.Idx) (x' : S1x16.Idx), (x 1).val = (x' 1).val →
      piece (cut fun j => X (at2 (y 0) j)) k x' = rowsOut X ((rect r k).emb x) := by
    intro k x x' hx
    have e0 : ((rect r k).emb x 0).val = (y 0).val := by
      have h := rect_row r k x
      rw [Rect.emb_apply, rect_stride, congrFun (rect_off r k) 0]; show r.val + 1 * (x 0).val = _; omega
    have e1 : ((rect r k).emb x 1).val = 16 * k.val + (x' 1).val := by
      rw [Rect.emb_apply, rect_stride, congrFun (rect_off r k) 1]; show 16 * k.val + 1 * (x 1).val = _; omega
    unfold rowsOut
    rw [show (rect r k).emb x 0 = y 0 from Fin.ext e0]
    exact (rowOut_piece _ k x' _ e1).symm
  refine View.read_writes_apply_of_pieces b.view g (rowsOut X) _ ?_ y ?_
  · intro p hp
    simp only [List.mem_cons, List.not_mem_nil, _root_.or_false] at hp
    rcases hp with rfl | rfl | rfl | rfl | rfl | rfl | rfl | rfl <;> intro x
    · exact key 7 x x rfl
    · exact key 6 x x rfl
    · exact key 5 x x rfl
    · exact key 4 x x rfl
    · exact key 3 x x rfl
    · exact key 2 x x rfl
    · exact key 1 x x rfl
    · exact key 0 x x rfl
  · have h1 : (y 1).val < 128 := (y 1).isLt
    obtain ⟨k, hk⟩ : ∃ k : Fin 8, (y 1).val / 16 = k.val := ⟨⟨(y 1).val / 16, by omega⟩, rfl⟩
    obtain ⟨p, hp, e⟩ := stored_rect (cut fun j => X (at2 (y 0) j)) r k
    exact ⟨p, hp, by rw [e]; exact (mem_rect r k y).mpr ⟨hy, hk⟩⟩

/-- and no other. -/
theorem read_stored_miss (b : Memref sig .scVector .vmem S64x128 .f32) (g : Buf (Elt F) (b.view.loc (thr d L))) (v : Pieces F)
    (r : Fin k0_t1_loop.trips) (y : S64x128.Idx) (hy : (y 0).val ≠ r.val) :
    b.view.read (Elt F) (b.view.writes (Elt F) g (stored v r)) y = b.view.read (Elt F) g y := by
  refine View.read_writes_apply_of_forall_not_mem b.view g y _ fun p hp => ?_
  have hm : ∀ k : Fin 8, y ∉ (rect r k).set := fun k h => hy ((mem_rect r k y).mp h).1
  simp only [List.mem_cons, List.not_mem_nil, _root_.or_false] at hp
  rcases hp with rfl | rfl | rfl | rfl | rfl | rfl | rfl | rfl
  · exact hm 7
  · exact hm 6
  · exact hm 5
  · exact hm 4
  · exact hm 3
  · exact hm 2
  · exact hm 1
  · exact hm 0

/-- The row loop takes the chunk in `a` to what it makes of it, in `b`. -/
theorem wp_rows (a b : Memref sig .scVector .vmem S64x128 .f32) (f : Buf (Elt F) (a.view.loc (thr d L))) {Q : BitVec 32 → sProp (𝕄 F)} :
    iprop((a.view.loc (thr d L) ↦{fullShare} f) ∗ (∃ g, b.view.loc (thr d L) ↦{fullShare} g))
      ⊢ iprop((((a.view.loc (thr d L) ↦{fullShare} f)
          ∗ (∃ g, ⌜b.view.read (Elt F) g = rowsOut (a.view.read (Elt F) f)⌝ ∗ b.view.loc (thr d L) ↦{fullShare} g)) -∗ ∀ w, Q w)
        -∗ wp frame (wpE (defs₀ (F := F)) 𝒱₀ (thr d L) none) Set.univ (rows L a b) Q) := by
  iintro ⟨Ha, %g, Hb⟩ HQ
  unfold rows
  iapply (Scf.wp_for frame (wpE (defs₀ (F := F)) 𝒱₀ (thr d L) none) Set.univ _ _ _ k0_t1_ok 0#32 (rowBody L a b)
    (fun t _ => iprop((a.view.loc (thr d L) ↦{fullShare} f)
      ∗ (∃ g, ⌜∀ y : S64x128.Idx, (y 0).val < t → b.view.read (Elt F) g y = rowsOut (a.view.read (Elt F) f) y⌝ ∗ b.view.loc (thr d L) ↦{fullShare} g))) ?_)
  · intro r w
    iintro ⟨Ha, %g, %hg, Hb⟩
    iapply (wp_rowBody d L a b r w f g) $$ [Ha Hb]
    · isplitl [Ha]; · iexact Ha
      iexact Hb
    iintro ⟨Ha, Hb⟩ %w'
    isplitl [Ha]; · iexact Ha
    iexists _; isplitr
    swap; · iexact Hb
    ipureintro; intro y hy
    by_cases h : (y 0).val = r.val
    · rw [got_eq d L a f r (y 0) h]; exact read_stored_hit d L b g _ r y h
    · rw [read_stored_miss d L b g _ r y h]; exact hg y (by omega)
  · isplitl [Ha Hb]
    · isplitl [Ha]; · iexact Ha
      iexists g; isplitr
      · ipureintro; intro y hy; exact absurd hy (Nat.not_lt_zero _)
      · iexact Hb
    · iintro %w ⟨Ha, %g, %hg, Hb⟩
      ihave HQ := HQ $$ [Ha Hb]
      · isplitl [Ha]; · iexact Ha
        iexists g; isplitr
        · ipureintro; funext y; exact hg y (show (y 0).val < 64 from (y 0).isLt)
        · iexact Hb
      iapply HQ

end Cert.Proof.Row

end
-- ==== Proof.Row.Ops.lean ====
/- The transfers and waits of a task: chunks of 64 rows carried from the argument to a buffer, and from a buffer to the
   result. What a transfer under way will deliver is said of the chunk that it carries. -/
module

public import proofs.«01_k».proof.Proof.Row.Loop

@[expose] public section

noncomputable section

namespace Cert.Proof.Row

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (d : Dev nD) (L : grid0.Coords)

/-! ## Chunks -/

/-- The argument, as a vector subcore names it. -/
abbrev xV : Memref sig .scVector .hbm S131072x128 .f32 := Memref.whole main_arg0_scv
/-- The result, as a vector subcore names it. -/
abbrev oV : Memref sig .scVector .hbm S131072x128 .f32 := Memref.whole main_v0_scv
/-- Where the argument is. -/
abbrev xLoc : Loc nD τ sig := (SparseCore.T d).loc main_arg0
/-- Where the result is. -/
abbrev oLoc : Loc nD τ sig := (SparseCore.T d).loc main_v0

omit [FloatOps F] in
/-- Every chunk is within the array. -/
theorem chunk_inb (p : Fin 2048) : ∀ a, (![64 * p.val, 0] : Fin 2 → ℕ) a + S64x128.size a ≤ S131072x128.size a := by
  have := p.isLt
  exact Rect.inb₂ (show 64 * p.val + 64 ≤ 131072 by omega) (show 0 + 128 ≤ 128 by omega)

/-- Chunk `p` of the array: rows `64 p` to `64 p + 63`. -/
abbrev chunk (p : Fin 2048) : Rect S131072x128 := Rect.unit (s := S131072x128) ![64 * p.val, 0] S64x128.size (chunk_inb p)

/-- The elements of chunk `p`. -/
abbrev chunkSet (p : Fin 2048) : Finset S131072x128.Idx := (chunk p).set

/-- Chunk `p` of the argument. -/
def xChunk (p : Fin 2048) : S64x128.Idx → Elt F .f32 := fun y => m (xLoc d) ((chunk p).emb y)

/-- What the kernel leaves in the result. -/
def result : Buf (Elt F) (oLoc d) := rowsOut (n := 131072) (m (xLoc d))

/-- Chunk `p` of the result is what the row loop makes of chunk `p` of the argument. -/
theorem result_chunk (p : Fin 2048) (y : S64x128.Idx) : (result m d : S131072x128.Idx → Elt F .f32) ((chunk p).emb y) = rowsOut (xChunk m d p) y := by
  have h1 : (chunk p).emb y 1 = y 1 := Fin.ext (by rw [Rect.emb_apply]; show 0 + 1 * (y 1).val = _; omega)
  unfold result rowsOut xChunk
  rw [h1]
  refine congrArg (fun ρ => rowOut ρ (y 1)) (funext fun j => congrArg (m (xLoc d)) ?_)
  funext a
  match a with
  | ⟨0, _⟩ => rfl
  | ⟨1, _⟩ => exact Fin.ext (show j.val = 0 + 1 * j.val by omega)

/-- Chunk `p` of the argument, held. -/
abbrev xP (p : Fin 2048) : sProp (𝕄 F) := xLoc d ↦[chunkSet p]{fullShare} m (xLoc d)
/-- Chunk `p` of the result, held at contents `f`. -/
abbrev oP (p : Fin 2048) (f : Buf (Elt F) (oLoc d)) : sProp (𝕄 F) := oLoc d ↦[chunkSet p]{fullShare} f

/-! ## What a task holds -/

section Tokens

variable (a : Memref sig .scVector .vmem S64x128 .f32) (sm : DmaSems sig S_) (p : Fin 2048)

/-- The buffer `a`, at whatever it holds. -/
def Any : sProp (𝕄 F) := iprop(∃ f, a.view.loc (thr d L) ↦{fullShare} f)
/-- The buffer `a`, holding chunk `p` of the argument. -/
def Full : sProp (𝕄 F) := iprop(∃ f, ⌜a.view.read (Elt F) f = xChunk m d p⌝ ∗ a.view.loc (thr d L) ↦{fullShare} f)
/-- The buffer `a`, holding chunk `p` of the result. -/
def Made : sProp (𝕄 F) := iprop(∃ f, ⌜a.view.read (Elt F) f = rowsOut (xChunk m d p)⌝ ∗ a.view.loc (thr d L) ↦{fullShare} f)
/-- The semaphore, at zero. -/
def Idle : sProp (𝕄 F) := semVal (thr d L, .dma sm.sem) 0
/-- The transfer of chunk `p` of the argument into `a`, under way. -/
def Fetch : sProp (𝕄 F) := Transfers.Flight countersEmb (thr d L) (.dma sm.sem) (default : HIx 1) a.view.dmaCredit iprop(Full m d L a p ∗ xP m d p)
/-- The transfer of chunk `p` of the result out of `a`, under way. -/
def Flush : sProp (𝕄 F) := Transfers.Flight countersEmb (thr d L) (.dma sm.sem) (default : HIx 1)
  (((oV).slice (chunk 0) (fun _ => rfl)).view.dmaCredit) iprop(Any d L a ∗ oP d p (result m d))

/-- The task's waits so far: none but its own, and each allowed. -/
def Owed (O : CellTallies nD τ sig (HIx 1)) (W : Waits sig (HIx 1)) : sProp (𝕄 F) :=
  iprop(Transfers.MayWaits (thr d L) (default : HIx 1) O ∗ ∃ W', ⌜∀ q ∈ W', q ∈ W ∨ q.2 = none⌝ ∗ owes (thr d L) O W')

end Tokens

/-! ## The operations -/

section Ops

variable {a b : Memref sig .scVector .vmem S64x128 .f32} {sm : DmaSems sig S_} {p : Fin 2048}
variable {O : CellTallies nD τ sig (HIx 1)} {W : Waits sig (HIx 1)} {Q : sProp (𝕄 F)}

/-- A chunk of the argument sent for. -/
theorem wp_fetch {off : Fin 2 → ℕ} {inb : ∀ a, off a + S64x128.size a ≤ S131072x128.size a} (hoff : off = ![64 * p.val, 0]) {h1 h2 h3} :
    iprop(Any d L a ∗ Idle d L sm ∗ xP m d p)
      ⊢ iprop((Fetch m d L a sm p -∗ Q)
        -∗ wp frame (wpE (defs₀ (F := F)) 𝒱₀ (thr d L) none) Set.univ
          (Prog.lift (.enqueueDma ((xV).slice (Rect.unit (s := S131072x128) off S64x128.size inb) (fun _ => rfl)) (.here a) (.dma sm.sem) h1 h2 h3)) fun _ => Q) := by
  subst hoff
  unfold Any Idle
  iintro ⟨⟨%g, Ha⟩, Hs, Hx⟩ HQ
  have hset : ((xV).slice (chunk p) (fun _ => rfl)).view.set = chunkSet p := by
    show ((View.whole (main_arg0_scv : Ref sig .scVector)).slice (chunk p)).set = _
    rw [View.set_slice]; exact Finset.map_refl
  ihave Hx := (Entails.of_eq (show xP m d p = (((xV).slice (chunk p) (fun _ => rfl)).view.loc (thr d L)
    ↦[((xV).slice (chunk p) (fun _ => rfl)).view.set]{fullShare} m (xLoc d) : sProp (𝕄 F)) by rw [hset])) $$ Hx
  iapply (Transfers.wp_dmaLocal countersEmb 𝒱₀ (thr d L) none (src := (xV).slice (chunk p) (fun _ => rfl)) (dst := a) (default : HIx 1) a.view.dmaCredit rfl
    (View.amount_pos a.view (.dma sm.sem) (show 0 < S64x128.numel by decide)) (Finset.subset_univ _)) $$ [Hx Ha Hs]
  · isplitl [Hx]; · iexact Hx
    isplitl [Ha]; · iexact Ha
    iexact Hs
  iintro Hfl
  rw [wp_ret]
  imodintro
  iapply HQ
  unfold Fetch
  iapply (Transfers.Flight_mono countersEmb (thr d L) ?_) $$ Hfl
  iintro ⟨Ha, Hx⟩
  isplitl [Ha]
  · unfold Full
    iexists _; isplitr
    swap; · iexact Ha
    ipureintro
    rw [View.read_write_univ]; rfl
  · iapply (Entails.of_eq (show (((xV).slice (chunk p) (fun _ => rfl)).view.loc (thr d L)
      ↦[((xV).slice (chunk p) (fun _ => rfl)).view.set]{fullShare} m (xLoc d) : sProp (𝕄 F)) = xP m d p by rw [hset])) $$ Hx

/-- A chunk of the result sent off. -/
theorem wp_flush (ha : a.view.set = Finset.univ) {off : Fin 2 → ℕ} {inb : ∀ a, off a + S64x128.size a ≤ S131072x128.size a} (hoff : off = ![64 * p.val, 0]) {h1 h2 h3}
    {f : Buf (Elt F) (oLoc d)} :
    iprop(Made m d L a p ∗ Idle d L sm ∗ oP d p f)
      ⊢ iprop((Flush m d L a sm p -∗ Q)
        -∗ wp frame (wpE (defs₀ (F := F)) 𝒱₀ (thr d L) none) Set.univ
          (Prog.lift (.enqueueDma a (.here ((oV).slice (Rect.unit (s := S131072x128) off S64x128.size inb) (fun _ => rfl))) (.dma sm.sem) h1 h2 h3)) fun _ => Q) := by
  subst hoff
  unfold Made Idle
  iintro ⟨⟨%g, %hg, Ha⟩, Hs, Ho⟩ HQ
  have hset : ((oV).slice (chunk p) (fun _ => rfl)).view.set = chunkSet p := by
    show ((View.whole (main_v0_scv : Ref sig .scVector)).slice (chunk p)).set = _
    rw [View.set_slice]; exact Finset.map_refl
  ihave Ho := (Entails.of_eq (show oP d p f = (((oV).slice (chunk p) (fun _ => rfl)).view.loc (thr d L)
    ↦[((oV).slice (chunk p) (fun _ => rfl)).view.set]{fullShare} f : sProp (𝕄 F)) by rw [hset])) $$ Ho
  ihave Ha := (Entails.of_eq (show (a.view.loc (thr d L) ↦{fullShare} g : sProp (𝕄 F)) = a.view.loc (thr d L) ↦[a.view.set]{fullShare} g by rw [ha])) $$ Ha
  iapply (Transfers.wp_dmaLocal countersEmb 𝒱₀ (thr d L) none (src := a) (dst := (oV).slice (chunk p) (fun _ => rfl)) (default : HIx 1)
    (((oV).slice (chunk 0) (fun _ => rfl)).view.dmaCredit) rfl
    (View.amount_pos ((oV).slice (chunk 0) (fun _ => rfl)).view (.dma sm.sem) (show 0 < S64x128.numel by decide)) (Finset.Subset.refl _)) $$ [Ho Ha Hs]
  · isplitl [Ha]; · iexact Ha
    isplitl [Ho]; · iexact Ho
    iexact Hs
  iintro Hfl
  rw [wp_ret]
  imodintro
  iapply HQ
  unfold Flush
  iapply (Transfers.Flight_mono countersEmb (thr d L) ?_) $$ Hfl
  iintro ⟨Ho, Ha⟩
  isplitl [Ha]
  · unfold Any
    iexists g
    iapply (Entails.of_eq (show (a.view.loc (thr d L) ↦[a.view.set]{fullShare} g : sProp (𝕄 F)) = a.view.loc (thr d L) ↦{fullShare} g by rw [ha])) $$ Ha
  · have hw : (((oV).slice (chunk p) (fun _ => rfl)).view.loc (thr d L) ↦[((oV).slice (chunk p) (fun _ => rfl)).view.set]{fullShare}
        (((oV).slice (chunk p) (fun _ => rfl)).view.write (Elt F) f (ReadAs.same.apply (a.view.read (Elt F) g)) Finset.univ) : sProp (𝕄 F)) = oP d p (result m d) := by
      rw [show oP d p (result m d) = (((oV).slice (chunk p) (fun _ => rfl)).view.loc (thr d L)
        ↦[((oV).slice (chunk p) (fun _ => rfl)).view.set]{fullShare} result m d : sProp (𝕄 F)) by rw [hset]]
      refine pointsTo_congr fun i hi => ?_
      obtain ⟨y, -, rfl⟩ := Finset.mem_map.mp hi
      rw [View.write_emb_of_mem _ _ (Finset.mem_univ _), hg]
      exact (result_chunk m d p y).symm
    iapply (Entails.of_eq hw) $$ Ho

/-- The wait for a chunk of the argument. -/
theorem wp_fetched {src : Memref sig .scVector .hbm S64x128 .f32} {h1 h2} :
    iprop(Fetch m d L a sm p ∗ Owed d L O W)
      ⊢ iprop((Full m d L a p ∗ xP m d p ∗ Idle d L sm ∗ Owed d L O W -∗ Q)
        -∗ wp frame (wpE (defs₀ (F := F)) 𝒱₀ (thr d L) none) Set.univ (Prog.lift (.waitDma2 sm.sem src a h1 h2)) fun _ => Q) := by
  unfold Fetch Owed Idle
  iintro ⟨Hfl, #Hmw, %W', %hW, HO⟩ HQ
  iapply (Transfers.wp_waitLocalO countersEmb 𝒱₀ (thr d L) none (default : HIx 1) (rfl : a.view.dmaCredit = _)) $$ [Hfl HO]
  · isplitl [Hfl]; · iexact Hfl
    isplitl [HO]; · iexact HO
    iapply (Transfers.MayWaits.elim (SemLoc.dma sm.sem)) $$ Hmw
  iintro ⟨⟨Ha, Hx⟩, Hs, HO⟩
  rw [wp_ret]
  imodintro
  iapply HQ
  isplitl [Ha]; · iexact Ha
  isplitl [Hx]; · iexact Hx
  isplitl [Hs]; · iexact Hs
  isplitr; · iexact Hmw
  iexists _; isplitr
  swap; · iexact HO
  ipureintro; intro q hq
  rcases Finset.mem_insert.mp hq with hq | hq
  · exact .inr (hq ▸ rfl)
  · exact hW q hq

/-- The wait for a chunk of the result: the slice of the result that the wait names is of the same size, wherever it begins. -/
theorem wp_flushed {off : Fin 2 → ℕ} {inb : ∀ a, off a + S64x128.size a ≤ S131072x128.size a} {h1 h2} :
    iprop(Flush m d L a sm p ∗ Owed d L O W)
      ⊢ iprop((Any d L a ∗ oP d p (result m d) ∗ Idle d L sm ∗ Owed d L O W -∗ Q)
        -∗ wp frame (wpE (defs₀ (F := F)) 𝒱₀ (thr d L) none) Set.univ (Prog.lift (.waitDma2 sm.sem a ((oV).slice (Rect.unit (s := S131072x128) off S64x128.size inb) (fun _ => rfl)) h1 h2)) fun _ => Q) := by
  unfold Flush Owed Idle
  iintro ⟨Hfl, #Hmw, %W', %hW, HO⟩ HQ
  iapply (Transfers.wp_waitLocalO countersEmb 𝒱₀ (thr d L) none (default : HIx 1) (show ((oV).slice (Rect.unit (s := S131072x128) off S64x128.size inb) (fun _ => rfl)).view.dmaCredit = ((oV).slice (chunk 0) (fun _ => rfl)).view.dmaCredit from rfl)) $$ [Hfl HO]
  · isplitl [Hfl]; · iexact Hfl
    isplitl [HO]; · iexact HO
    iapply (Transfers.MayWaits.elim (SemLoc.dma sm.sem)) $$ Hmw
  iintro ⟨⟨Ha, Hx⟩, Hs, HO⟩
  rw [wp_ret]
  imodintro
  iapply HQ
  isplitl [Ha]; · iexact Ha
  isplitl [Hx]; · iexact Hx
  isplitl [Hs]; · iexact Hs
  isplitr; · iexact Hmw
  iexists _; isplitr
  swap; · iexact HO
  ipureintro; intro q hq
  rcases Finset.mem_insert.mp hq with hq | hq
  · exact .inr (hq ▸ rfl)
  · exact hW q hq

/-- The row loop over a chunk. -/
theorem wp_make :
    iprop(Full m d L a p ∗ Any d L b)
      ⊢ iprop((Any d L a ∗ Made m d L b p -∗ Q)
        -∗ wp frame (wpE (defs₀ (F := F)) 𝒱₀ (thr d L) none) Set.univ (rows L a b) fun _ => Q) := by
  unfold Full Made Any
  iintro ⟨⟨%f, %hf, Ha⟩, Hb⟩ HQ
  iapply (wp_rows d L a b f (Q := fun _ => Q)) $$ [Ha Hb]
  · isplitl [Ha]; · iexact Ha
    iexact Hb
  iintro ⟨Ha, %g, %hg, Hb⟩ %w
  iapply HQ
  isplitl [Ha]; · iexists f; iexact Ha
  iexists g; isplitr
  · ipureintro; rw [hg, hf]
  · iexact Hb

end Ops

end Cert.Proof.Row

end
-- ==== Proof.Row.Slot.lean ====
/- One chunk's turn in a slot: the kernel keeps four slots, each of a buffer that chunks of the argument arrive in, a
   buffer that chunks of the result leave from, and a semaphore for each. A turn takes the chunk that has arrived, makes
   its chunk of the result, sends that off and sends for the slot's next chunk. -/
module

public import proofs.«01_k».proof.Proof.Row.Ops

@[expose] public section

noncomputable section

namespace Cert.Proof.Row

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (d : Dev nD) (L : grid0.Coords)

/-! ## Where a task's chunks begin -/

/-- Chunk `k` of the 64 of the task at `L`. -/
def ix (k : ℕ) : Fin 2048 := ⟨(64 * (2 * (L 1).val + (L 0).val) + k) % 2048, Nat.mod_lt _ (by decide)⟩

/-- Where chunk `k` of a task begins. -/
theorem ix_row (k : ℕ) (hk : k < 64) : 64 * (ix L k).val = 8192 * (L 1).val + 4096 * (L 0).val + 64 * k := by
  have h0 : (L 0).val < 2 := (L 0).isLt
  have h1 : (L 1).val < 16 := (L 1).isLt
  unfold ix
  show 64 * ((64 * (2 * (L 1).val + (L 0).val) + k) % 2048) = _
  omega

set_option maxRecDepth 65536 in
/-- The offsets that the first and the last chunks are addressed at, all of them evaluated. -/
theorem off_all : ∀ (i : grid0.Coords) (k : Fin 64), k0_off1 i (BitVec.ofNat 32 (64 * k.val)) = ![8192 * (i 1).val + 4096 * (i 0).val + 64 * k.val, 0] := by
  decide +kernel

/-- The first and the last chunks are addressed where they begin. -/
theorem off_edge (k : ℕ) (hk : k < 64) : k0_off1 L (BitVec.ofNat 32 (64 * k)) = ![64 * (ix L k).val, 0] :=
  (off_all L ⟨k, hk⟩).trans (by rw [ix_row L k hk])

/-- In trip `t` of the group loop the result's chunks are addressed where chunks `4 (t + 1) + r` begin. -/
theorem off_out (t : Fin k0_t5_loop.trips) (r : Fin 4) : k0_off43 L t (BitVec.ofNat 32 r.val) = ![64 * (ix L (4 * (t.val + 1) + r.val)).val, 0] := by
  have ht : t.val < 14 := t.isLt
  have hr := r.isLt
  rw [k0_off43_eq, ix_row L _ (by omega)]
  congr 1; omega

/-- In trip `t` of the group loop the argument's chunks are addressed where chunks `4 (t + 2) + r` begin. -/
theorem off_in (t : Fin k0_t5_loop.trips) (r : Fin 4) : k0_off44 L t (BitVec.ofNat 32 r.val) = ![64 * (ix L (4 * (t.val + 2) + r.val)).val, 0] := by
  have ht : t.val < 14 := t.isLt
  have hr := r.isLt
  rw [k0_off44_eq, ix_row L _ (by omega)]
  congr 1; omega

/-! ## A slot's turns -/

section Turns

variable {a b : Memref sig .scVector .vmem S64x128 .f32} {si so : DmaSems sig S_} {p p' q : Fin 2048}
variable {O : CellTallies nD τ sig (HIx 1)} {W : Waits sig (HIx 1)} {Q : sProp (𝕄 F)} {f : Buf (Elt F) (oLoc d)}
variable {src : Memref sig .scVector .hbm S64x128 .f32}
variable {off off' off'' : Fin 2 → ℕ} {inb : ∀ a, off a + S64x128.size a ≤ S131072x128.size a}
  {inb' : ∀ a, off' a + S64x128.size a ≤ S131072x128.size a} {inb'' : ∀ a, off'' a + S64x128.size a ≤ S131072x128.size a}

/-- Running an operation of the task at `L` to the state `Q`. -/
abbrev runs {α : Type} (e : Prog (TpuEff nD τ sig (Elt F) Λ₀ (.scVector (cV L) (jV L))) α) (Q : sProp (𝕄 F)) : sProp (𝕄 F) :=
  wp frame (wpE (defs₀ (F := F)) 𝒱₀ (thr d L) none) Set.univ e fun _ => Q

/-- The first turn of a slot, its buffer for the result unused so far. -/
theorem turn_first (hb : b.view.set = Finset.univ) (ho : off = ![64 * p.val, 0]) (hi : off' = ![64 * q.val, 0]) {g1 g2 g3 g4 g5 g6 g7 g8} :
    iprop(Fetch m d L a si p ∗ Any d L b ∗ Idle d L so ∗ xP m d q ∗ oP d p f ∗ Owed d L O W)
      ⊢ iprop((Fetch m d L a si q ∗ Flush m d L b so p ∗ xP m d p ∗ Owed d L O W -∗ Q)
        -∗ runs d L (Prog.lift (.waitDma2 si.sem src a g1 g2)) (runs d L (rows L a b)
          (runs d L (Prog.lift (.enqueueDma b (.here ((oV).slice (Rect.unit (s := S131072x128) off S64x128.size inb) (fun _ => rfl))) (.dma so.sem) g3 g4 g5))
          (runs d L (Prog.lift (.enqueueDma ((xV).slice (Rect.unit (s := S131072x128) off' S64x128.size inb') (fun _ => rfl)) (.here a) (.dma si.sem) g6 g7 g8)) Q)))) := by
  iintro ⟨HF, Hb, Hso, Hq, Ho, HO⟩ HQ
  iapply (wp_fetched m d L) $$ [HF HO]
  · isplitl [HF]; · iexact HF
    iexact HO
  iintro ⟨Ha, Hp, Hsi, HO⟩
  iapply (wp_make m d L) $$ [Ha Hb]
  · isplitl [Ha]; · iexact Ha
    iexact Hb
  iintro ⟨Ha, Hb⟩
  iapply (wp_flush m d L hb ho) $$ [Hb Hso Ho]
  · isplitl [Hb]; · iexact Hb
    isplitl [Hso]; · iexact Hso
    iexact Ho
  iintro Hfl
  iapply (wp_fetch m d L hi) $$ [Ha Hsi Hq]
  · isplitl [Ha]; · iexact Ha
    isplitl [Hsi]; · iexact Hsi
    iexact Hq
  iintro HF
  iapply HQ
  isplitl [HF]; · iexact HF
  isplitl [Hfl]; · iexact Hfl
  isplitl [Hp]; · iexact Hp
  iexact HO

/-- The last turn of a slot, which sends for nothing more. -/
theorem turn_last (hb : b.view.set = Finset.univ) (ho : off = ![64 * p.val, 0]) {g1 g2 g3 g4 g5 g6 g7} :
    iprop(Fetch m d L a si p ∗ Flush m d L b so p' ∗ oP d p f ∗ Owed d L O W)
      ⊢ iprop((Any d L a ∗ Idle d L si ∗ Flush m d L b so p ∗ xP m d p ∗ oP d p' (result m d) ∗ Owed d L O W -∗ Q)
        -∗ runs d L (Prog.lift (.waitDma2 si.sem src a g1 g2))
          (runs d L (Prog.lift (.waitDma2 so.sem b ((oV).slice (Rect.unit (s := S131072x128) off'' S64x128.size inb'') (fun _ => rfl)) g3 g4))
          (runs d L (rows L a b)
          (runs d L (Prog.lift (.enqueueDma b (.here ((oV).slice (Rect.unit (s := S131072x128) off S64x128.size inb) (fun _ => rfl))) (.dma so.sem) g5 g6 g7)) Q)))) := by
  iintro ⟨HF, Hfl, Ho, HO⟩ HQ
  iapply (wp_fetched m d L) $$ [HF HO]
  · isplitl [HF]; · iexact HF
    iexact HO
  iintro ⟨Ha, Hp, Hsi, HO⟩
  iapply (wp_flushed m d L) $$ [Hfl HO]
  · isplitl [Hfl]; · iexact Hfl
    iexact HO
  iintro ⟨Hb, Ho', Hso, HO⟩
  iapply (wp_make m d L) $$ [Ha Hb]
  · isplitl [Ha]; · iexact Ha
    iexact Hb
  iintro ⟨Ha, Hb⟩
  iapply (wp_flush m d L hb ho) $$ [Hb Hso Ho]
  · isplitl [Hb]; · iexact Hb
    isplitl [Hso]; · iexact Hso
    iexact Ho
  iintro Hfl
  iapply HQ
  isplitl [Ha]; · iexact Ha
  isplitl [Hsi]; · iexact Hsi
  isplitl [Hfl]; · iexact Hfl
  isplitl [Hp]; · iexact Hp
  isplitl [Ho']; · iexact Ho'
  iexact HO

/-- Any other turn of a slot: the chunk of the result that it sent off before has gone, and its next chunk is sent for. -/
theorem turn_next (hb : b.view.set = Finset.univ) (ho : off = ![64 * p.val, 0]) (hi : off' = ![64 * q.val, 0]) {g1 g2 g3 g4 g5 g6 g7 g8 g9 g10} :
    iprop(Fetch m d L a si p ∗ Flush m d L b so p' ∗ xP m d q ∗ oP d p f ∗ Owed d L O W)
      ⊢ iprop((Fetch m d L a si q ∗ Flush m d L b so p ∗ xP m d p ∗ oP d p' (result m d) ∗ Owed d L O W -∗ Q)
        -∗ runs d L (Prog.lift (.waitDma2 si.sem src a g1 g2))
          (runs d L (Prog.lift (.waitDma2 so.sem b ((oV).slice (Rect.unit (s := S131072x128) off'' S64x128.size inb'') (fun _ => rfl)) g3 g4))
          (runs d L (rows L a b)
          (runs d L (Prog.lift (.enqueueDma b (.here ((oV).slice (Rect.unit (s := S131072x128) off S64x128.size inb) (fun _ => rfl))) (.dma so.sem) g5 g6 g7))
          (runs d L (Prog.lift (.enqueueDma ((xV).slice (Rect.unit (s := S131072x128) off' S64x128.size inb') (fun _ => rfl)) (.here a) (.dma si.sem) g8 g9 g10)) Q))))) := by
  iintro ⟨HF, Hfl, Hq, Ho, HO⟩ HQ
  iapply (turn_last m d L hb ho) $$ [HF Hfl Ho HO]
  · isplitl [HF]; · iexact HF
    isplitl [Hfl]; · iexact Hfl
    isplitl [Ho]; · iexact Ho
    iexact HO
  iintro ⟨Ha, Hsi, Hfl, Hp, Ho', HO⟩
  iapply (wp_fetch m d L hi) $$ [Ha Hsi Hq]
  · isplitl [Ha]; · iexact Ha
    isplitl [Hsi]; · iexact Hsi
    iexact Hq
  iintro HF
  iapply HQ
  isplitl [HF]; · iexact HF
  isplitl [Hfl]; · iexact Hfl
  isplitl [Hp]; · iexact Hp
  isplitl [Ho']; · iexact Ho'
  iexact HO

end Turns

end Cert.Proof.Row

end
-- ==== Proof.Row.Tile.lean ====
/- A task of the kernel: the 64 chunks of a vector subcore, in sixteen groups of four, a chunk of each group to a slot. -/
module

public import proofs.«01_k».proof.Proof.Row.Slot

@[expose] public section

noncomputable section

namespace Cert.Proof.Row

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (d : Dev nD) (L : grid0.Coords)

/-! ## The groups of a task -/

/-- Group `g` of the argument's chunks. -/
def xG (g : ℕ) : sProp (𝕄 F) :=
  iprop(xP m d (ix L (4 * g + 0)) ∗ xP m d (ix L (4 * g + 1)) ∗ xP m d (ix L (4 * g + 2)) ∗ xP m d (ix L (4 * g + 3)))
/-- Group `g` of the result's chunks, at contents `f`. -/
def oG (f : Buf (Elt F) (oLoc d)) (g : ℕ) : sProp (𝕄 F) :=
  iprop(oP d (ix L (4 * g + 0)) f ∗ oP d (ix L (4 * g + 1)) f ∗ oP d (ix L (4 * g + 2)) f ∗ oP d (ix L (4 * g + 3)) f)

/-- The argument's groups but for group `j`. -/
def xRest (j : ℕ) : sProp (𝕄 F) := bigSep ((Finset.range 16).erase j) (xG m d L)
/-- The result's groups before group `j`, each holding what the kernel computes. -/
def oDone (j : ℕ) : sProp (𝕄 F) := bigSep (Finset.range j) (oG d L (result m d))
/-- The result's groups from group `j` on, as the launch finds them. -/
def oLeft (j : ℕ) : sProp (𝕄 F) := bigSep (Finset.Ico j 16) (oG d L (m (oLoc d)))

/-- All of a task's chunks, the result's at contents `f`. -/
def share (f : Buf (Elt F) (oLoc d)) : sProp (𝕄 F) := iprop(bigSep (Finset.range 16) (xG m d L) ∗ bigSep (Finset.range 16) (oG d L f))

/-- One group of the argument taken from all. -/
theorem x_all (k : ℕ) (hk : k < 16) : bigSep (Finset.range 16) (xG m d L) = iprop(xG m d L k ∗ xRest m d L k) :=
  SparseCore.bigSep_erase' (Finset.mem_range.mpr hk)
/-- A second group taken, and the first brought back. -/
theorem x_swap (j k : ℕ) (hj : j < 16) (hk : k < 16) (h : j ≠ k) :
    xRest m d L j ⊢ iprop(xG m d L k ∗ (xG m d L j -∗ xRest m d L k)) := by
  unfold xRest
  rw [SparseCore.bigSep_erase' (i := k) (Finset.mem_erase.mpr ⟨h.symm, Finset.mem_range.mpr hk⟩),
    SparseCore.bigSep_erase' (i := j) (s := (Finset.range 16).erase k) (Finset.mem_erase.mpr ⟨h, Finset.mem_range.mpr hj⟩), Finset.erase_right_comm]
  iintro ⟨Hk, H⟩
  isplitl [Hk]; · iexact Hk
  iintro Hj
  isplitl [Hj]; · iexact Hj
  iexact H
/-- The next group of the result taken. -/
theorem o_take (j : ℕ) (hj : j < 16) : oLeft m d L j = iprop(oG d L (m (oLoc d)) j ∗ oLeft m d L (j + 1)) := by
  unfold oLeft
  rw [← Finset.insert_Ico_add_one_left_eq_Ico hj, SparseCore.bigSep_insert' (by simp)]
/-- A group of the result added to those done. -/
theorem o_put (j : ℕ) : oDone m d L (j + 1) = iprop(oG d L (result m d) j ∗ oDone m d L j) := by
  unfold oDone
  rw [Finset.range_add_one, SparseCore.bigSep_insert' Finset.notMem_range_self]

/-! ## The slots -/

/-- The buffer that chunks arrive in, slot 0. -/
abbrev a0 : Memref sig .scVector .vmem S64x128 .f32 := Memref.whole cc0_scratch0
/-- The same, slot 1. -/
abbrev a1 : Memref sig .scVector .vmem S64x128 .f32 := Memref.whole cc0_scratch1
/-- The same, slot 2. -/
abbrev a2 : Memref sig .scVector .vmem S64x128 .f32 := Memref.whole cc0_scratch2
/-- The same, slot 3. -/
abbrev a3 : Memref sig .scVector .vmem S64x128 .f32 := Memref.whole cc0_scratch3
/-- The buffer that chunks leave from, slot 0. -/
abbrev b0 : Memref sig .scVector .vmem S64x128 .f32 := Memref.whole cc0_scratch4
/-- The same, slot 1. -/
abbrev b1 : Memref sig .scVector .vmem S64x128 .f32 := Memref.whole cc0_scratch5
/-- The same, slot 2. -/
abbrev b2 : Memref sig .scVector .vmem S64x128 .f32 := Memref.whole cc0_scratch6
/-- The same, slot 3. -/
abbrev b3 : Memref sig .scVector .vmem S64x128 .f32 := Memref.whole cc0_scratch7

/-- Group `j` of the argument under way, a chunk to a slot. -/
def fetches (j : ℕ) : sProp (𝕄 F) :=
  iprop(Fetch m d L a0 cc0_scratch8 (ix L (4 * j + 0)) ∗ Fetch m d L a1 cc0_scratch9 (ix L (4 * j + 1))
    ∗ Fetch m d L a2 cc0_scratch10 (ix L (4 * j + 2)) ∗ Fetch m d L a3 cc0_scratch11 (ix L (4 * j + 3)))
/-- Group `j` of the result under way, a chunk from a slot. -/
def flushes (j : ℕ) : sProp (𝕄 F) :=
  iprop(Flush m d L b0 cc0_scratch12 (ix L (4 * j + 0)) ∗ Flush m d L b1 cc0_scratch13 (ix L (4 * j + 1))
    ∗ Flush m d L b2 cc0_scratch14 (ix L (4 * j + 2)) ∗ Flush m d L b3 cc0_scratch15 (ix L (4 * j + 3)))
/-- The buffers that chunks arrive in, and their semaphores, all idle. -/
def idleIn : sProp (𝕄 F) :=
  iprop((Any d L a0 ∗ Any d L a1 ∗ Any d L a2 ∗ Any d L a3) ∗ Idle d L cc0_scratch8 ∗ Idle d L cc0_scratch9 ∗ Idle d L cc0_scratch10 ∗ Idle d L cc0_scratch11)
/-- The buffers that chunks leave from, and their semaphores, all idle. -/
def idleOut : sProp (𝕄 F) :=
  iprop((Any d L b0 ∗ Any d L b1 ∗ Any d L b2 ∗ Any d L b3) ∗ Idle d L cc0_scratch12 ∗ Idle d L cc0_scratch13 ∗ Idle d L cc0_scratch14 ∗ Idle d L cc0_scratch15)

variable (O : CellTallies nD τ sig (HIx 1)) (W : Waits sig (HIx 1))

/-- What the task holds when `t` trips of the group loop are done: group `t + 1` of the argument and group `t` of the
    result are under way. -/
def inv (t : ℕ) : sProp (𝕄 F) :=
  iprop(fetches m d L (t + 1) ∗ flushes m d L t ∗ xRest m d L (t + 1) ∗ oDone m d L t ∗ oLeft m d L (t + 1) ∗ Owed d L O W)

/-! ## The group loop -/

/-- A trip of the group loop. -/
theorem wp_group (v2 : BitVec 32) (t : Fin k0_t5_loop.trips) (w : BitVec 32) :
    inv m d L O W t.val ⊢ runs d L (k0_t5_body (F := F) L xV (Memref.isWhole_whole _) oV (Memref.isWhole_whole _)
      a0 (Memref.isWhole_whole _) a1 (Memref.isWhole_whole _) a2 (Memref.isWhole_whole _) a3 (Memref.isWhole_whole _)
      b0 (Memref.isWhole_whole _) b1 (Memref.isWhole_whole _) b2 (Memref.isWhole_whole _) b3 (Memref.isWhole_whole _)
      cc0_scratch8 cc0_scratch9 cc0_scratch10 cc0_scratch11 cc0_scratch12 cc0_scratch13 cc0_scratch14 cc0_scratch15 v2 t w) (inv m d L O W (t.val + 1)) := by
  have ht : t.val < 14 := t.isLt
  unfold k0_t5_body
  simp only [k0_part25_eq_skeleton, k0_part26_eq_skeleton, k0_part27_eq_skeleton]
  unfold k0_part25_skel k0_part26_skel k0_part27_skel
  simp only [loop6, loop7, loop8, loop9, bind_assoc, pure_bind]
  simp only [wp_bind, wp_pure]
  unfold inv
  rw [o_put m d L t.val, o_take m d L (t.val + 1) (by omega)]
  unfold fetches flushes
  iintro ⟨⟨F0, F1, F2, F3⟩, ⟨G0, G1, G2, G3⟩, Hx, Hd, ⟨Ho, Hl⟩, HO⟩
  ihave Hx := (x_swap m d L (t.val + 1) (t.val + 2) (by omega) (by omega) (by omega)) $$ Hx
  unfold xG oG
  icases Hx with ⟨⟨X0, X1, X2, X3⟩, Hx⟩
  icases Ho with ⟨O0, O1, O2, O3⟩
  iapply (turn_next m d L (View.set_whole _) (off_out L t 0) (off_in L t 0)) $$ [F0 G0 X0 O0 HO]
  · isplitl [F0]; · iexact F0
    isplitl [G0]; · iexact G0
    isplitl [X0]; · iexact X0
    isplitl [O0]; · iexact O0
    iexact HO
  iintro ⟨F0, G0, X0, O0, HO⟩
  iapply (turn_next m d L (View.set_whole _) (off_out L t 1) (off_in L t 1)) $$ [F1 G1 X1 O1 HO]
  · isplitl [F1]; · iexact F1
    isplitl [G1]; · iexact G1
    isplitl [X1]; · iexact X1
    isplitl [O1]; · iexact O1
    iexact HO
  iintro ⟨F1, G1, X1, O1, HO⟩
  iapply (turn_next m d L (View.set_whole _) (off_out L t 2) (off_in L t 2)) $$ [F2 G2 X2 O2 HO]
  · isplitl [F2]; · iexact F2
    isplitl [G2]; · iexact G2
    isplitl [X2]; · iexact X2
    isplitl [O2]; · iexact O2
    iexact HO
  iintro ⟨F2, G2, X2, O2, HO⟩
  iapply (turn_next m d L (View.set_whole _) (off_out L t 3) (off_in L t 3)) $$ [F3 G3 X3 O3 HO]
  · isplitl [F3]; · iexact F3
    isplitl [G3]; · iexact G3
    isplitl [X3]; · iexact X3
    isplitl [O3]; · iexact O3
    iexact HO
  iintro ⟨F3, G3, X3, O3, HO⟩
  imodintro
  isplitl [F0 F1 F2 F3]
  · isplitl [F0]; · iexact F0
    isplitl [F1]; · iexact F1
    isplitl [F2]; · iexact F2
    iexact F3
  isplitl [G0 G1 G2 G3]
  · isplitl [G0]; · iexact G0
    isplitl [G1]; · iexact G1
    isplitl [G2]; · iexact G2
    iexact G3
  isplitl [X0 X1 X2 X3 Hx]
  · iapply Hx
    isplitl [X0]; · iexact X0
    isplitl [X1]; · iexact X1
    isplitl [X2]; · iexact X2
    iexact X3
  isplitl [O0 O1 O2 O3 Hd]
  · isplitl [O0 O1 O2 O3]
    · isplitl [O0]; · iexact O0
      isplitl [O1]; · iexact O1
      isplitl [O2]; · iexact O2
      iexact O3
    iexact Hd
  isplitl [Hl]; · iexact Hl
  iexact HO

/-! ## The whole task -/

set_option maxHeartbeats 4000000 in
/-- The task: its chunks of the argument read, its chunks of the result left at what the kernel computes, everything else
    as before. -/
theorem wp_task :
    iprop(share m d L (m (oLoc d)) ∗ idleIn d L ∗ idleOut d L ∗ Owed d L O W)
      ⊢ runs d L (cc0__sc_body (F := F) L xV (Memref.isWhole_whole _) oV (Memref.isWhole_whole _)
        a0 (Memref.isWhole_whole _) a1 (Memref.isWhole_whole _) a2 (Memref.isWhole_whole _) a3 (Memref.isWhole_whole _)
        b0 (Memref.isWhole_whole _) b1 (Memref.isWhole_whole _) b2 (Memref.isWhole_whole _) b3 (Memref.isWhole_whole _)
        cc0_scratch8 cc0_scratch9 cc0_scratch10 cc0_scratch11 cc0_scratch12 cc0_scratch13 cc0_scratch14 cc0_scratch15)
        iprop(share m d L (result m d) ∗ idleIn d L ∗ idleOut d L ∗ Owed d L O W) := by
  simp only [cc0__sc_body_eq_skeleton]
  unfold cc0__sc_body_skel
  simp only [k0_part40_eq_skeleton, k0_part41_eq_skeleton, k0_part42_eq_skeleton, k0_part43_eq_skeleton, k0_part44_eq_skeleton]
  unfold k0_part40_skel k0_part41_skel k0_part42_skel k0_part43_skel k0_part44_skel
  simp only [loop1, loop2, loop3, loop4, loop10, loop11, loop12, loop13, bind_assoc, pure_bind]
  simp only [wp_bind, wp_pure]
  unfold share
  rw [x_all m d L 0 (by omega), show bigSep (Finset.range 16) (oG d L (m (oLoc d))) = oLeft m d L 0 by rw [oLeft, Finset.range_eq_Ico],
    o_take m d L 0 (by omega)]
  unfold idleIn idleOut
  iintro ⟨⟨⟨X, Hx⟩, Ho, Hl⟩, ⟨⟨A0, A1, A2, A3⟩, S0, S1, S2, S3⟩, ⟨⟨B0, B1, B2, B3⟩, T0, T1, T2, T3⟩, HO⟩
  ihave Hx := (x_swap m d L 0 1 (by omega) (by omega) (by omega)) $$ Hx
  icases Hx with ⟨Y, Hx⟩
  ihave X := (Entails.of_eq (show xG m d L 0 = iprop(xP m d (ix L (4 * 0 + 0)) ∗ xP m d (ix L (4 * 0 + 1)) ∗ xP m d (ix L (4 * 0 + 2)) ∗ xP m d (ix L (4 * 0 + 3))) from rfl)) $$ X
  ihave Y := (Entails.of_eq (show xG m d L 1 = iprop(xP m d (ix L (4 * 1 + 0)) ∗ xP m d (ix L (4 * 1 + 1)) ∗ xP m d (ix L (4 * 1 + 2)) ∗ xP m d (ix L (4 * 1 + 3))) from rfl)) $$ Y
  ihave Ho := (Entails.of_eq (show oG d L (m (oLoc d)) 0 = iprop(oP d (ix L (4 * 0 + 0)) (m (oLoc d)) ∗ oP d (ix L (4 * 0 + 1)) (m (oLoc d))
    ∗ oP d (ix L (4 * 0 + 2)) (m (oLoc d)) ∗ oP d (ix L (4 * 0 + 3)) (m (oLoc d))) from rfl)) $$ Ho
  icases X with ⟨X0, X1, X2, X3⟩
  icases Y with ⟨Y0, Y1, Y2, Y3⟩
  icases Ho with ⟨O0, O1, O2, O3⟩
  -- the first group sent for
  iapply (wp_fetch m d L (off_edge L (4 * 0 + 0) (by omega))) $$ [A0 S0 X0]
  · isplitl [A0]; · iexact A0
    isplitl [S0]; · iexact S0
    iexact X0
  iintro F0
  iapply (wp_fetch m d L (off_edge L (4 * 0 + 1) (by omega))) $$ [A1 S1 X1]
  · isplitl [A1]; · iexact A1
    isplitl [S1]; · iexact S1
    iexact X1
  iintro F1
  iapply (wp_fetch m d L (off_edge L (4 * 0 + 2) (by omega))) $$ [A2 S2 X2]
  · isplitl [A2]; · iexact A2
    isplitl [S2]; · iexact S2
    iexact X2
  iintro F2
  iapply (wp_fetch m d L (off_edge L (4 * 0 + 3) (by omega))) $$ [A3 S3 X3]
  · isplitl [A3]; · iexact A3
    isplitl [S3]; · iexact S3
    iexact X3
  iintro F3
  -- the slots' first turns
  iapply (turn_first m d L (View.set_whole _) (off_edge L (4 * 0 + 0) (by omega)) (off_edge L (4 * 1 + 0) (by omega))) $$ [F0 B0 T0 Y0 O0 HO]
  · isplitl [F0]; · iexact F0
    isplitl [B0]; · iexact B0
    isplitl [T0]; · iexact T0
    isplitl [Y0]; · iexact Y0
    isplitl [O0]; · iexact O0
    iexact HO
  iintro ⟨F0, G0, X0, HO⟩
  iapply (turn_first m d L (View.set_whole _) (off_edge L (4 * 0 + 1) (by omega)) (off_edge L (4 * 1 + 1) (by omega))) $$ [F1 B1 T1 Y1 O1 HO]
  · isplitl [F1]; · iexact F1
    isplitl [B1]; · iexact B1
    isplitl [T1]; · iexact T1
    isplitl [Y1]; · iexact Y1
    isplitl [O1]; · iexact O1
    iexact HO
  iintro ⟨F1, G1, X1, HO⟩
  iapply (turn_first m d L (View.set_whole _) (off_edge L (4 * 0 + 2) (by omega)) (off_edge L (4 * 1 + 2) (by omega))) $$ [F2 B2 T2 Y2 O2 HO]
  · isplitl [F2]; · iexact F2
    isplitl [B2]; · iexact B2
    isplitl [T2]; · iexact T2
    isplitl [Y2]; · iexact Y2
    isplitl [O2]; · iexact O2
    iexact HO
  iintro ⟨F2, G2, X2, HO⟩
  iapply (turn_first m d L (View.set_whole _) (off_edge L (4 * 0 + 3) (by omega)) (off_edge L (4 * 1 + 3) (by omega))) $$ [F3 B3 T3 Y3 O3 HO]
  · isplitl [F3]; · iexact F3
    isplitl [B3]; · iexact B3
    isplitl [T3]; · iexact T3
    isplitl [Y3]; · iexact Y3
    isplitl [O3]; · iexact O3
    iexact HO
  iintro ⟨F3, G3, X3, HO⟩
  -- the group loop
  iapply (Scf.wp_for frame (wpE (defs₀ (F := F)) 𝒱₀ (thr d L) none) Set.univ _ _ _ k0_t5_ok 0#32 _
    (fun t _ => inv m d L O W t) (fun t w => wp_group m d L O W _ t w))
  isplitl [F0 F1 F2 F3 G0 G1 G2 G3 X0 X1 X2 X3 Hx Hl HO]
  · unfold inv fetches flushes
    isplitl [F0 F1 F2 F3]
    · isplitl [F0]; · iexact F0
      isplitl [F1]; · iexact F1
      isplitl [F2]; · iexact F2
      iexact F3
    isplitl [G0 G1 G2 G3]
    · isplitl [G0]; · iexact G0
      isplitl [G1]; · iexact G1
      isplitl [G2]; · iexact G2
      iexact G3
    isplitl [X0 X1 X2 X3 Hx]
    · iapply Hx
      unfold xG
      isplitl [X0]; · iexact X0
      isplitl [X1]; · iexact X1
      isplitl [X2]; · iexact X2
      iexact X3
    isplitr
    · rw [show oDone m d L 0 = iprop(emp) from bigSep_empty]; iempintro
    isplitl [Hl]; · iexact Hl
    iexact HO
  iintro %w HI
  ihave HI := (Entails.of_eq (show inv m d L O W k0_t5_loop.trips = iprop(fetches m d L 15 ∗ flushes m d L 14 ∗ xRest m d L 15 ∗ oDone m d L 14 ∗ oLeft m d L 15 ∗ Owed d L O W) from rfl)) $$ HI
  rw [o_take m d L 15 (by omega)]
  icases HI with ⟨HF, HG, Hx, Hd, ⟨Ho, Hl⟩, HO⟩
  unfold fetches flushes
  icases HF with ⟨F0, F1, F2, F3⟩
  icases HG with ⟨G0, G1, G2, G3⟩
  ihave Ho := (Entails.of_eq (show oG d L (m (oLoc d)) 15 = iprop(oP d (ix L (4 * 15 + 0)) (m (oLoc d)) ∗ oP d (ix L (4 * 15 + 1)) (m (oLoc d))
    ∗ oP d (ix L (4 * 15 + 2)) (m (oLoc d)) ∗ oP d (ix L (4 * 15 + 3)) (m (oLoc d))) from rfl)) $$ Ho
  icases Ho with ⟨O0, O1, O2, O3⟩
  -- the slots' last turns
  iapply (turn_last m d L (View.set_whole _) (off_edge L (4 * 15 + 0) (by omega))) $$ [F0 G0 O0 HO]
  · isplitl [F0]; · iexact F0
    isplitl [G0]; · iexact G0
    isplitl [O0]; · iexact O0
    iexact HO
  iintro ⟨A0, S0, G0, X0, O0, HO⟩
  iapply (turn_last m d L (View.set_whole _) (off_edge L (4 * 15 + 1) (by omega))) $$ [F1 G1 O1 HO]
  · isplitl [F1]; · iexact F1
    isplitl [G1]; · iexact G1
    isplitl [O1]; · iexact O1
    iexact HO
  iintro ⟨A1, S1, G1, X1, O1, HO⟩
  iapply (turn_last m d L (View.set_whole _) (off_edge L (4 * 15 + 2) (by omega))) $$ [F2 G2 O2 HO]
  · isplitl [F2]; · iexact F2
    isplitl [G2]; · iexact G2
    isplitl [O2]; · iexact O2
    iexact HO
  iintro ⟨A2, S2, G2, X2, O2, HO⟩
  iapply (turn_last m d L (View.set_whole _) (off_edge L (4 * 15 + 3) (by omega))) $$ [F3 G3 O3 HO]
  · isplitl [F3]; · iexact F3
    isplitl [G3]; · iexact G3
    isplitl [O3]; · iexact O3
    iexact HO
  iintro ⟨A3, S3, G3, X3, O3, HO⟩
  -- the last group gone
  iapply (wp_flushed m d L) $$ [G0 HO]
  · isplitl [G0]; · iexact G0
    iexact HO
  iintro ⟨B0, P0, T0, HO⟩
  iapply (wp_flushed m d L) $$ [G1 HO]
  · isplitl [G1]; · iexact G1
    iexact HO
  iintro ⟨B1, P1, T1, HO⟩
  iapply (wp_flushed m d L) $$ [G2 HO]
  · isplitl [G2]; · iexact G2
    iexact HO
  iintro ⟨B2, P2, T2, HO⟩
  iapply (wp_flushed m d L) $$ [G3 HO]
  · isplitl [G3]; · iexact G3
    iexact HO
  iintro ⟨B3, P3, T3, HO⟩
  imodintro
  isplitl [X0 X1 X2 X3 Hx O0 O1 O2 O3 P0 P1 P2 P3 Hd]
  · rw [← x_all m d L 0 (by omega), x_all m d L 15 (by omega), show bigSep (Finset.range 16) (oG d L (result m d)) = oDone m d L (15 + 1) from rfl, o_put m d L 15, show oDone m d L 15 = _ from o_put m d L 14]
    unfold xG oG
    isplitl [X0 X1 X2 X3 Hx]
    · isplitl [X0 X1 X2 X3]
      · isplitl [X0]; · iexact X0
        isplitl [X1]; · iexact X1
        isplitl [X2]; · iexact X2
        iexact X3
      iexact Hx
    isplitl [P0 P1 P2 P3]
    · isplitl [P0]; · iexact P0
      isplitl [P1]; · iexact P1
      isplitl [P2]; · iexact P2
      iexact P3
    isplitl [O0 O1 O2 O3]
    · isplitl [O0]; · iexact O0
      isplitl [O1]; · iexact O1
      isplitl [O2]; · iexact O2
      iexact O3
    iexact Hd
  isplitl [A0 A1 A2 A3 S0 S1 S2 S3]
  · isplitl [A0 A1 A2 A3]
    · isplitl [A0]; · iexact A0
      isplitl [A1]; · iexact A1
      isplitl [A2]; · iexact A2
      iexact A3
    isplitl [S0]; · iexact S0
    isplitl [S1]; · iexact S1
    isplitl [S2]; · iexact S2
    iexact S3
  isplitl [B0 B1 B2 B3 T0 T1 T2 T3]
  · isplitl [B0 B1 B2 B3]
    · isplitl [B0]; · iexact B0
      isplitl [B1]; · iexact B1
      isplitl [B2]; · iexact B2
      iexact B3
    isplitl [T0]; · iexact T0
    isplitl [T1]; · iexact T1
    isplitl [T2]; · iexact T2
    iexact T3
  iexact HO

end Cert.Proof.Row

end
-- ==== Proof.Row.Own.lean ====
/- The task in its place: its buffers and semaphores among those of its vector subcore, and what the launch asks of it. -/
module

public import proofs.«01_k».proof.Proof.Row.Tile

@[expose] public section

noncomputable section

namespace Cert.Proof.Row

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (d : Dev nD) (L : grid0.Coords)

/-! ## Its buffers and semaphores -/

/-- The kernel's eight buffers. -/
def bufs : Fin 8 → Ref sig .scVector :=
  ![cc0_scratch0, cc0_scratch1, cc0_scratch2, cc0_scratch3, cc0_scratch4, cc0_scratch5, cc0_scratch6, cc0_scratch7]
/-- The kernel's eight semaphores. -/
def sems : Fin 8 → SemLoc sig :=
  ![.dma cc0_scratch8.sem, .dma cc0_scratch9.sem, .dma cc0_scratch10.sem, .dma cc0_scratch11.sem,
    .dma cc0_scratch12.sem, .dma cc0_scratch13.sem, .dma cc0_scratch14.sem, .dma cc0_scratch15.sem]

/-- They are eight different buffers, -/
theorem bufs_inj : Function.Injective bufs := by decide
/-- each the subcore's own; -/
theorem bufs_own (p : Proc τ) (hp : p = .scVector (cV L) (jV L)) (k : Fin 8) : (Proc.scVector (cV L) (jV L)).devRef (bufs k) ∈ ownRefs p := by
  subst hp
  refine SparseCore.Cfg.mem_ownRefs_of_owner ?_
  fin_cases k <;> rfl
/-- and eight different semaphores, -/
theorem sems_inj : Function.Injective sems := by decide
/-- each of them scoped. -/
theorem sems_scoped : ∀ k, (sems k).isScoped .scVector = true := by decide

/-- What the subcore owns of semaphores but for the kernel's. -/
def restSems : sProp (𝕄 F) := bigSep (ownCells (thr d L) \ Finset.univ.image fun k => ((thr d L, sems k) : GSem nD τ sig)) fun g => semVal g 0
/-- What it owns of buffers but for the kernel's. -/
def restBufs : sProp (𝕄 F) := bigSep (ownRefs (thr d L).2 \ Finset.univ.image fun k => (Proc.scVector (cV L) (jV L)).devRef (bufs k))
  fun b => iprop(∃ f, ((d, b) : Loc nD τ sig) ↦{fullShare} f)

/-- Eight things, one by one. -/
theorem eight (Φ : Fin 8 → sProp (𝕄 F)) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- What eight different members of `s` hold, and the rest. -/
theorem eight_of {I : Type} [DecidableEq I] {s : Finset I} {f : Fin 8 → I} (inj : Function.Injective f) (sub : ∀ k, f k ∈ s) (Φ : I → sProp (𝕄 F)) :
    bigSep s Φ = iprop((Φ (f 0) ∗ Φ (f 1) ∗ Φ (f 2) ∗ Φ (f 3) ∗ Φ (f 4) ∗ Φ (f 5) ∗ Φ (f 6) ∗ Φ (f 7)) ∗ bigSep (s \ Finset.univ.image f) Φ) := by
  rw [SparseCore.bigSep_sdiff_split' (s := s) (t := Finset.univ.image f) (fun i hi => by obtain ⟨k, -, rfl⟩ := Finset.mem_image.mp hi; exact sub k),
    SparseCore.bigSep_image_of_injOn inj.injOn, eight]

/-- The subcore's semaphores: the kernel's eight and the rest. -/
theorem ownSems_split : (ownSems0 (thr d L) : sProp (𝕄 F))
    = iprop((Idle d L cc0_scratch8 ∗ Idle d L cc0_scratch9 ∗ Idle d L cc0_scratch10 ∗ Idle d L cc0_scratch11
      ∗ Idle d L cc0_scratch12 ∗ Idle d L cc0_scratch13 ∗ Idle d L cc0_scratch14 ∗ Idle d L cc0_scratch15) ∗ restSems d L) := by
  unfold SparseCore.Cfg.ownSems0
  rw [eight_of (f := fun k => ((thr d L, sems k) : GSem nD τ sig)) (fun _ _ h => sems_inj (Prod.mk.inj h).2)
    (fun k => mem_ownCells.mpr ⟨rfl, sems_scoped k⟩)]
  rfl

/-- The subcore's buffers: the kernel's eight and the rest. -/
theorem ownBufs_split : (ownBufs (thr d L) : sProp (𝕄 F))
    = iprop((Any d L a0 ∗ Any d L a1 ∗ Any d L a2 ∗ Any d L a3 ∗ Any d L b0 ∗ Any d L b1 ∗ Any d L b2 ∗ Any d L b3) ∗ restBufs d L) := by
  unfold SparseCore.Cfg.ownBufs
  rw [eight_of (f := fun k => (Proc.scVector (cV L) (jV L)).devRef (bufs k)) (fun _ _ h => bufs_inj (Proc.devRef_injective _ h))
    (fun k => bufs_own L _ rfl k)]
  rfl

/-! ## What the launch asks -/

/-- The task, from what the launch gives its subcore to what it hands back. -/
theorem tile_body (hF : (K (F := F)).Facts) (O : CellTallies nD τ sig (HIx 1)) (W : Waits sig (HIx 1)) (hO : ∀ g, O g none = 0) :
    iprop(levAts (K (F := F)).L (K (F := F)).lev ∗ emp ∗ share m d L (m (oLoc d)) ∗ scopedBufs (thr d L) ∗ scopedSems0 (thr d L) ∗ owes (thr d L) O W)
      ⊢ runs d L (cc0__sc_body (F := F) L xV (Memref.isWhole_whole _) oV (Memref.isWhole_whole _)
        a0 (Memref.isWhole_whole _) a1 (Memref.isWhole_whole _) a2 (Memref.isWhole_whole _) a3 (Memref.isWhole_whole _)
        b0 (Memref.isWhole_whole _) b1 (Memref.isWhole_whole _) b2 (Memref.isWhole_whole _) b3 (Memref.isWhole_whole _)
        cc0_scratch8 cc0_scratch9 cc0_scratch10 cc0_scratch11 cc0_scratch12 cc0_scratch13 cc0_scratch14 cc0_scratch15)
        iprop(share m d L (result m d) ∗ scopedBufs (thr d L) ∗ scopedSems0 (thr d L) ∗ ∃ W', ⌜∀ q ∈ W', q ∈ W ∨ q.2 = none⌝ ∗ owes (thr d L) O W') := by
  rw [show scopedBufs (thr d L) = _ from (K (F := F)).scopedBufs_V hF d (cV L) (jV L),
    show scopedSems0 (thr d L) = _ from SparseCore.Cfg.scopedSems0_V (Val := Elt F) d (cV L) (jV L), ownSems_split, ownBufs_split]
  iintro ⟨#Hlv, -, Hsh, ⟨⟨A0, A1, A2, A3, B0, B1, B2, B3⟩, RB⟩, ⟨⟨S0, S1, S2, S3, T0, T1, T2, T3⟩, RS⟩, HO⟩
  ihave Hmw := (show levAts (K (F := F)).L (K (F := F)).lev ⊢ Transfers.MayWaits (thr d L) (default : HIx 1) O from
    (K (F := F)).mayWaits_none (thr := thr d L) hO) $$ Hlv
  ihave H := (wp_task m d L O W) $$ [Hsh A0 A1 A2 A3 S0 S1 S2 S3 B0 B1 B2 B3 T0 T1 T2 T3 HO]
  · unfold idleIn idleOut Owed
    isplitl [Hsh]; · iexact Hsh
    isplitl [A0 A1 A2 A3 S0 S1 S2 S3]
    · isplitl [A0 A1 A2 A3]
      · isplitl [A0]; · iexact A0
        isplitl [A1]; · iexact A1
        isplitl [A2]; · iexact A2
        iexact A3
      isplitl [S0]; · iexact S0
      isplitl [S1]; · iexact S1
      isplitl [S2]; · iexact S2
      iexact S3
    isplitl [B0 B1 B2 B3 T0 T1 T2 T3]
    · isplitl [B0 B1 B2 B3]
      · isplitl [B0]; · iexact B0
        isplitl [B1]; · iexact B1
        isplitl [B2]; · iexact B2
        iexact B3
      isplitl [T0]; · iexact T0
      isplitl [T1]; · iexact T1
      isplitl [T2]; · iexact T2
      iexact T3
    isplitr; · iexact Hmw
    iexists W; isplitr
    · ipureintro; exact fun _ hq => .inl hq
    iexact HO
  iapply (wp_wand frame (wpE (defs₀ (F := F)) 𝒱₀ (thr d L) none) Set.univ) $$ H
  iintro %u
  unfold idleIn idleOut Owed
  iintro ⟨Hsh, ⟨⟨A0, A1, A2, A3⟩, S0, S1, S2, S3⟩, ⟨⟨B0, B1, B2, B3⟩, T0, T1, T2, T3⟩, -, HO⟩
  isplitl [Hsh]; · iexact Hsh
  isplitl [A0 A1 A2 A3 B0 B1 B2 B3 RB]
  · isplitr [RB]
    · isplitl [A0]; · iexact A0
      isplitl [A1]; · iexact A1
      isplitl [A2]; · iexact A2
      isplitl [A3]; · iexact A3
      isplitl [B0]; · iexact B0
      isplitl [B1]; · iexact B1
      isplitl [B2]; · iexact B2
      iexact B3
    iexact RB
  isplitl [S0 S1 S2 S3 T0 T1 T2 T3 RS]
  · isplitr [RS]
    · isplitl [S0]; · iexact S0
      isplitl [S1]; · iexact S1
      isplitl [S2]; · iexact S2
      isplitl [S3]; · iexact S3
      isplitl [T0]; · iexact T0
      isplitl [T1]; · iexact T1
      isplitl [T2]; · iexact T2
      iexact T3
    iexact RS
  iexact HO

end Cert.Proof.Row

end
-- ==== Proof.Row.Launch.lean ====
/- The launch: the argument and the result divided among the 32 vector subcores, the tasks run, and the whole put together
   again. The program's run, at any float values, leaves the result at what the row loops compute of the argument. -/
module

public import proofs.«01_k».proof.Proof.Row.Own

@[expose] public section

noncomputable section

namespace Cert.Proof.Row

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (ρ : Dev nD → PrngReg) (d : Dev nD)

/-! ## The chunks of all the tasks -/

/-- The task on subcore `s` of core `c`. -/
def coords (c : Fin 2) (s : Fin 16) : grid0.Coords :=
  fun | 0 => c | 1 => s | ⟨_ + 2, h⟩ => absurd h (Nat.not_lt.2 (Nat.le_add_left _ _))

/-- The tasks' chunks, by core, subcore, group and slot, are all the chunks. -/
def chunkOf : Fin 2 × Fin 16 × Fin 16 × Fin 4 ≃ Fin 2048 where
  toFun x := ix (coords x.1 x.2.1) (4 * x.2.2.1.val + x.2.2.2.val)
  invFun p := (⟨p.val / 64 % 2, by omega⟩, ⟨p.val / 128, by have := p.isLt; omega⟩, ⟨p.val / 4 % 16, by omega⟩, ⟨p.val % 4, by omega⟩)
  left_inv := by
    rintro ⟨c, s, g, b⟩
    have hc := c.isLt
    have hs := s.isLt
    have hg := g.isLt
    have hb := b.isLt
    have e : (ix (coords c s) (4 * g.val + b.val)).val = (64 * (2 * s.val + c.val) + (4 * g.val + b.val)) % 2048 := rfl
    simp only [Prod.mk.injEq, Fin.ext_iff, e]
    omega
  right_inv := by
    intro p
    have hp := p.isLt
    apply Fin.ext
    show (64 * (2 * (p.val / 128) + p.val / 64 % 2) + (4 * (p.val / 4 % 16) + p.val % 4)) % 2048 = p.val
    omega

/-- Something of every chunk, task by task and group by group. -/
theorem tasks_split (Φ : Fin 2048 → sProp (𝕄 F)) :
    bigSep Finset.univ Φ = bigSep Finset.univ fun c : Fin 2 => bigSep Finset.univ fun s : Fin 16 => bigSep (Finset.range 16) fun g =>
      iprop(Φ (ix (coords c s) (4 * g + 0)) ∗ Φ (ix (coords c s) (4 * g + 1)) ∗ Φ (ix (coords c s) (4 * g + 2)) ∗ Φ (ix (coords c s) (4 * g + 3))) := by
  rw [bigSep_univ_equiv chunkOf Φ, bigSep_univ_prod]
  refine bigSep_congr fun c _ => ?_
  rw [bigSep_univ_prod]
  refine bigSep_congr fun s _ => ?_
  rw [bigSep_univ_prod]
  rw [show Finset.range 16 = (Finset.univ : Finset (Fin 16)).map Fin.valEmbedding by decide, BI.bigSep_map]
  refine bigSep_congr fun g _ => ?_
  exact bigSep_univ_eq_bigSepL [0, 1, 2, 3] (by decide) (by decide) fun b : Fin 4 => Φ (ix (coords c s) (4 * g.val + b.val))

/-- Different chunks share no element. -/
theorem chunks_disjoint : ∀ p ∈ (Finset.univ : Finset (Fin 2048)), ∀ q ∈ (Finset.univ : Finset (Fin 2048)), p ≠ q → Disjoint (chunkSet p) (chunkSet q) := by
  intro p _ q _ h
  refine Finset.disjoint_left.mpr fun y hp hq => h (Fin.ext ?_)
  have h1 := (Rect.mem_set_unit.mp hp 0)
  have h2 := (Rect.mem_set_unit.mp hq 0)
  change 64 * p.val ≤ (y 0).val ∧ (y 0).val < 64 * p.val + 64 at h1
  change 64 * q.val ≤ (y 0).val ∧ (y 0).val < 64 * q.val + 64 at h2
  omega

/-- Every element is in a chunk. -/
theorem chunks_cover : (Finset.univ : Finset (Fin 2048)).biUnion chunkSet = Finset.univ := by
  rw [Finset.eq_univ_iff_forall]
  intro y
  rw [Finset.mem_biUnion]
  have h0 : (y 0).val < 131072 := lt_of_lt_of_eq (y 0).isLt (show S131072x128.size 0 = 131072 by decide)
  have h1 : (y 1).val < 128 := lt_of_lt_of_eq (y 1).isLt (show S131072x128.size 1 = 128 by decide)
  refine ⟨⟨(y 0).val / 64, by omega⟩, Finset.mem_univ _, Rect.mem_set_unit.mpr fun a => ?_⟩
  match a with
  | ⟨0, _⟩ => exact ⟨show 64 * ((y 0).val / 64) ≤ (y 0).val by omega, show (y 0).val < 64 * ((y 0).val / 64) + 64 by omega⟩
  | ⟨1, _⟩ => exact ⟨Nat.zero_le _, show (y 1).val < 0 + 128 by omega⟩

/-- A core's part of the whole, the result's at contents `f`. -/
def part (f : Buf (Elt F) (oLoc d)) (c : Fin 2) : sProp (𝕄 F) := bigSep Finset.univ fun s : Fin 16 => share m d (coords c s) f

/-- The argument and the result, whole, are the two cores' parts. -/
theorem whole_split (f : Buf (Elt F) (oLoc d)) :
    bigSep Finset.univ (part m d f)
      = iprop((xLoc d ↦{fullShare} m (xLoc d)) ∗ oLoc d ↦{fullShare} f) := by
  rw [show (xLoc d ↦{fullShare} m (xLoc d) : sProp (𝕄 F)) = bigSep Finset.univ (xP m d) by
      rw [← pointsTo_biUnion Finset.univ (ℓ := xLoc d) chunkSet chunks_disjoint, chunks_cover],
    show (oLoc d ↦{fullShare} f : sProp (𝕄 F)) = bigSep Finset.univ fun p => oP d p f by
      rw [← pointsTo_biUnion Finset.univ (ℓ := oLoc d) chunkSet chunks_disjoint, chunks_cover],
    tasks_split (xP m d), tasks_split fun p => oP d p f, ← bigSep_sep']
  refine bigSep_congr fun c _ => ?_
  rw [← bigSep_sep']
  unfold part share
  rfl

/-! ## What is handed over -/

/-- A task's share may be kept by a handshake. -/
instance share_storable (L : grid0.Coords) (f : Buf (Elt F) (oLoc d)) : BI.Storable (upEmb : UEmb _ (𝕄 F)) (share m d L f) := by
  unfold share xG oG
  infer_instance
/-- So may a core's part. -/
instance part_storable (f : Buf (Elt F) (oLoc d)) (c : Fin 2) : BI.Storable (upEmb : UEmb _ (𝕄 F)) (part m d f c) := by
  unfold part
  have := fun s => share_storable m d (coords c s) f
  exact BI.Storable.bigSep _ _ _

/-- A core's part, as the launch names its tasks. -/
theorem part_tasks (f : Buf (Elt F) (oLoc d)) (c : Fin 2) :
    part m d f c = bigSep Finset.univ fun i : Fin ((K (F := F)).nSub 0) => share m d (coords c (Fin.cast nSub_zero i)) f := by
  unfold part
  exact bigSep_congr fun _ _ => congrArg (fun s => share m d (coords c s) f) (Fin.ext rfl)

/-- The whole, as the launch names its cores. -/
theorem whole_cores (f : Buf (Elt F) (oLoc d)) :
    (bigSep Finset.univ fun c : Fin ((K (F := F)).nCore 0) => part m d f (Fin.cast nCore_zero c))
      = iprop((xLoc d ↦{fullShare} m (xLoc d)) ∗ oLoc d ↦{fullShare} f) :=
  Eq.trans (bigSep_congr fun _ _ => congrArg (part m d f) (Fin.ext rfl)) (whole_split m d f)

attribute [local irreducible] part share

/-- The call hands each core its part and each task its share, and takes them back with the result computed. -/
def P : (K (F := F)).Pay (nD := nD) (Val := Elt F) (Name := ℕ) (U := UU) where
  st := fun q d c => match q with | 0 => part m d (m (oLoc d)) (Fin.cast nCore_zero c)
  dn := fun q d c => match q with | 0 => part m d (result m d) (Fin.cast nCore_zero c)
  go := fun q d c i => match q with | 0 => share m d (coords (Fin.cast nCore_zero c) (Fin.cast nSub_zero i)) (m (oLoc d))
  td := fun q d c i => match q with | 0 => share m d (coords (Fin.cast nCore_zero c) (Fin.cast nSub_zero i)) (result m d)
  x := fun _ _ => iprop(emp)

/-- All that the handshakes carry may be kept by them. -/
instance P_storable : (P (F := F) m).IsStorable where
  st q d c := match q with | 0 => part_storable m d (m (oLoc d)) (Fin.cast nCore_zero c)
  dn q d c := match q with | 0 => part_storable m d (result m d) (Fin.cast nCore_zero c)
  go q d c i := match q with | 0 => share_storable m d (coords (Fin.cast nCore_zero c) (Fin.cast nSub_zero i)) (m (oLoc d))
  td q d c i := match q with | 0 => share_storable m d (coords (Fin.cast nCore_zero c) (Fin.cast nSub_zero i)) (result m d)

/-! ## The task's obligation -/

/-- The body that a vector subcore runs. -/
theorem body_eq (c : Fin τ.nSC) (s : Fin τ.nSub) :
    defs₀ (F := F) (.scVector c s) 0 ()
      = SparseCore.onTile hcore0 hsub0 (fun c s => cc0__sc_body (F := F) (coords c s) xV (Memref.isWhole_whole _) oV (Memref.isWhole_whole _)
        a0 (Memref.isWhole_whole _) a1 (Memref.isWhole_whole _) a2 (Memref.isWhole_whole _) a3 (Memref.isWhole_whole _)
        b0 (Memref.isWhole_whole _) b1 (Memref.isWhole_whole _) b2 (Memref.isWhole_whole _) b3 (Memref.isWhole_whole _)
        cc0_scratch8 cc0_scratch9 cc0_scratch10 cc0_scratch11 cc0_scratch12 cc0_scratch13 cc0_scratch14 cc0_scratch15) ⟨⟩ c s := rfl

omit [FloatOps F] in
/-- A task's own waits are among those that the launch allows. -/
theorem waits_weaken {th : Thread nD τ} {A B C : sProp (𝕄 F)} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each task does what the launch asks of it. -/
theorem tile_obl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [body_eq]; simp only [SparseCore.onTile, hci, and_self, ↓reduceDIte]
  exact (tile_body m d (coords ⟨_, hci.1⟩ ⟨_, hci.2⟩) hF O W hO).trans (wp_mono frame _ _ fun _ => waits_weaken)

/-- A core's part is its tasks' shares. -/
theorem core_split : (K (F := F)).VecSplit' (P m) 0 := by
  intro d c
  show part m d (m (oLoc d)) (Fin.cast nCore_zero c) ⊢ |={Set.univ}=> iprop(
    (bigSep Finset.univ fun i : Fin ((K (F := F)).nSub 0) => share m d (coords (Fin.cast nCore_zero c) (Fin.cast nSub_zero i)) (m (oLoc d)))
    ∗ ((bigSep Finset.univ fun i : Fin ((K (F := F)).nSub 0) => share m d (coords (Fin.cast nCore_zero c) (Fin.cast nSub_zero i)) (result m d))
      -∗ part m d (result m d) (Fin.cast nCore_zero c)))
  rw [← part_tasks, ← part_tasks]
  iintro H; imodintro
  isplitl [H]; · iexact H
  iintro H; iexact H

/-! ## The program -/

/-- The rounds of the handshakes as they are at the launch. -/
def u₀ : UU := (initOf (K (F := F)).hsCells (K (F := F)).hsToks, 1)

/-- What the handshakes start from. -/
theorem start : (ownU (u₀ (F := F)) : sProp (𝕄 F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ => iprop(emp)) = (iprop(emp) : sProp (𝕄 F)) from bigSep_emp_const _]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ => iprop(emp)) = (iprop(emp) : sProp (𝕄 F)) from bigSep_emp_const _]
  iempintro

omit [FloatOps F] in
/-- The program's two arrays. -/
theorem arrays (d : Dev nD) (W : (b : Ref sig .tc) → Buf (Elt F) ((d.tc : Thread nD τ).loc b)) :
    (unscopedBufs d W : sProp (𝕄 F)) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- The two cores' parts before the call are the whole, -/
theorem before_eq : (bigSep Finset.univ fun c : Fin ((K (F := F)).nCore 0) => (P m).st 0 d c)
    = iprop((xLoc d ↦{fullShare} m (xLoc d)) ∗ oLoc d ↦{fullShare} m (oLoc d)) := whole_cores m d (m (oLoc d))
/-- and so they are after it, the result computed. -/
theorem after_eq : (bigSep Finset.univ fun c : Fin ((K (F := F)).nCore 0) => (P m).dn 0 d c)
    = iprop((xLoc d ↦{fullShare} m (xLoc d)) ∗ oLoc d ↦{fullShare} result m d) := whole_cores m d (result m d)

/-- What a device's arrays hold in the end. -/
abbrev final : sProp (𝕄 F) := iprop((xLoc d ↦{fullShare} m (xLoc d)) ∗ oLoc d ↦{fullShare} result m d)

/-- The program of a device: the one call. -/
theorem wp_main (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ final m d ∗ (K (F := F)).tcEnd d) := by
  unfold SparseCore.Cfg.tcRes SparseCore.Cfg.tcEnd
  rw [arrays]
  simp only [main, wp_bind, wp_pure]
  iintro ⟨#Hctx, Hst, ⟨Hb, ⟨Hx, Ho⟩, Hts, -⟩, -⟩
  iapply ((K (F := F)).wp_run (D (F := F)) 𝒱 (EH := EH) (P := P m) κ d 0) $$ [Hst Hx Ho Hb Hts]
  isplitr; · iexact Hctx
  isplitl [Hst]; · iexact Hst
  isplitl [Hx Ho]
  · rw [before_eq]
    isplitl [Hx]; · iexact Hx
    iexact Ho
  iintro ⟨Hst, Hdn⟩
  ihave Hdn := (Entails.of_eq (after_eq m d)) $$ Hdn
  imodintro
  isplitl [Hst]; · iexact Hst
  isplitl [Hdn]; · iexact Hdn
  isplitl [Hb] <;> iassumption

/-- What that says of the memory. -/
def holds (d : Dev nD) (s' : Phys nD τ sig (Elt F)) : Prop := s'.mem.mem (xLoc d) = m (xLoc d) ∧ s'.mem.mem (oLoc d) = result m d

set_option maxRecDepth 16384 in
/-- The arrays' contents are the memory's. -/
theorem final_holds (d : Dev nD) (s' : Phys nD τ sig (Elt F)) : iprop(final m d ∗ SI s') ⊢ (⌜holds m d s'⌝ : sProp (𝕄 F)) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := result m d)) $$ [HSI Ho]
  · isplitl [HSI] <;> iassumption
  icases H with %h2
  ipureintro; exact ⟨funext fun i => h1 i (Finset.mem_univ i), funext fun i => h2 i (Finset.mem_univ i)⟩

/-- The end of the run: each device's argument as it was, its result what the row loops compute of it, and every semaphore
    back at zero. -/
def Done : PUnit × MemSt nD τ sig (Elt F) → Prop :=
  fun r => (∀ c : Dev nD, r.2.mem (xLoc c) = m (xLoc c) ∧ r.2.mem (oLoc c) = result m c) ∧ r.2.sem = fun _ => 0

/-- Every run of the program ends so. -/
theorem run [∀ e, Nonempty (Elt F e)] :
    θ_run (Cert.KernelIdeal.defs (F := F)) (Cert.KernelIdeal.threads (F := F)) ⟨m, fun _ => 0, ρ⟩ (Done m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tile_obl m facts)
    (fun q _ => match q with | 0 => SparseCore.Cfg.VecSplit.of_plain (core_split m))
    m ρ main (fun _ => iprop(emp)) (final m) (u₀ (F := F)) (sep_elim_left.trans (start m)) (wp_main m ρ) (holds m) (final_holds m) (Done m) (fun _ h hz => ⟨h, hz⟩)

end Cert.Proof.Row

end
-- ==== Proof.Math.Spec.lean ====
/- The function that the kernel and the reference both compute, on one row of 128 extended reals. -/
module

public import Idealize.ShloMosaic.Lib.Pointwise
public import Idealize.ShloMosaic.PureOps.Ideal.Laws

@[expose] public section

noncomputable section

open Idealize.ShloMosaic

namespace Cert.RowSpec

/-- The literal `1e-5`, as the rational that its float word is. -/
abbrev eps : EReal := Ideal.ofBits .f32 0x3727C5AC#32
/-- The literal `1 / (1 + 1e-5)`, as the rational that its float word is. -/
abbrev top : EReal := Ideal.ofBits .f32 0x3F7FFF58#32
/-- The literal `1`. -/
abbrev one : EReal := 1

/-- The greatest of the row's entries other than the first. -/
def rowMax (x : Fin 128 → EReal) : EReal := Finset.univ.sup fun j : Fin 127 => x ⟨1 + j.val, by omega⟩

/-- The factor of a row whose greatest entry is `m`: `127 m / (127 m + 1e-5)`. -/
def scale (m : EReal) : EReal := Ideal.div (127 * m) (127 * m + eps)

/-- Entry `j` of the result row. -/
def out (x : Fin 128 → EReal) (j : Fin 128) : EReal :=
  if j.val = 0 then eps * (max (x j + top) 0 + one)
  else max (x j - rowMax x + top) 0 * scale (rowMax x)

/-- A fold of `max` from `⊥` is the supremum. -/
theorem fold_max_bot {ι : Type} [Fintype ι] (f : ι → EReal) :
    (Finset.univ.fold max ⊥ f : EReal) = Finset.univ.sup f := by
  rw [Finset.sup_def, Finset.fold]; rfl

/-- The row's maximum as a supremum over all 128 columns, the first masked out. -/
theorem rowMax_eq_masked (x : Fin 128 → EReal) :
    rowMax x = Finset.univ.sup fun j : Fin 128 => if j.val = 0 then (⊥ : EReal) else x j := by
  apply le_antisymm
  · refine Finset.sup_le fun j _ => ?_
    refine le_trans (le_of_eq ?_) (Finset.le_sup (f := fun j : Fin 128 => if j.val = 0 then (⊥ : EReal) else x j)
      (Finset.mem_univ (⟨1 + j.val, by omega⟩ : Fin 128)))
    exact (if_neg (by show ¬ 1 + j.val = 0; omega)).symm
  · refine Finset.sup_le fun j _ => ?_
    by_cases h : j.val = 0
    · rw [if_pos h]; exact bot_le
    · rw [if_neg h]
      have hj : (⟨1 + (⟨j.val - 1, by omega⟩ : Fin 127).val, by omega⟩ : Fin 128) = j :=
        Fin.ext (by show 1 + (j.val - 1) = j.val; omega)
      exact le_trans (le_of_eq (congrArg x hj.symm)) (Finset.le_sup (f := fun j : Fin 127 => x ⟨1 + j.val, by omega⟩)
        (Finset.mem_univ (⟨j.val - 1, by omega⟩ : Fin 127)))

/-- The sum of 127 copies of `m` is `127 m`, at the infinities too. -/
theorem sum_copies (m : EReal) : (∑ _j : Fin 127, m) = 127 * m := by
  rw [Finset.sum_const, Finset.card_univ, Fintype.card_fin, EReal.nsmul_eq_mul]; rfl

/-- The word of minus infinity. -/
theorem ofBits_negInf : Ideal.ofBits .f32 0xFF800000#32 = ⊥ := by simp [Ideal.ofBits, Ideal.ieee]
/-- The word of 127. -/
theorem ofBits_127 : Ideal.ofBits .f32 0x42FE0000#32 = 127 := by
  have h : Ideal.ofBits .f32 0x42FE0000#32 = ((127 : ℝ) : EReal) := by
    simp [Ideal.ofBits, Ideal.ieee, -EReal.coe_mul]; norm_num
  rw [h]; rfl
/-- The word of zero. -/
theorem ofBits_zero : Ideal.ofBits .f32 0x00000000#32 = 0 := by simp

end Cert.RowSpec
end
-- ==== Proof.Row.Ideal.lean ====
/- Over the extended reals the row loop makes of a row what `Spec` says. -/
module

public import proofs.«01_k».proof.Proof.Row.Value
public import proofs.«01_k».proof.Proof.Math.Spec

@[expose] public section

noncomputable section

namespace Cert.Proof.Row

open Cert.KernelIdeal Cert.KernelIdeal.Gen Cert.RowSpec
open Idealize.ShloMosaic

/-- The lane that differs from lane `l` in the bits of `b`. -/
def flip (b : ℕ) (l : Fin 16) : Fin 16 := ⟨(l.val ^^^ b) % 16, Nat.mod_lt _ (by decide)⟩

/-- Each lane's maximum with the lane eight away. -/
def stage8 (v : FVec Ideal S16 .f32) : FVec Ideal S16 .f32 :=
  maximumf v (select (cmpi .eq (andi lanes (broadcast S16 8#32)) (broadcast S16 0#32))
    (concatenate S16 0 [⟨S8, extractStridedSlice S8 ![8] v slices_S16_o8_S8⟩, ⟨S8, extractStridedSlice S8 ![0] v slices_S16_o0_S8⟩] concatenates_S8_S8_S16_d0)
    (concatenate S16 0 [⟨S8, extractStridedSlice S8 ![8] v slices_S16_o8_S8⟩, ⟨S8, extractStridedSlice S8 ![0] v slices_S16_o0_S8⟩] concatenates_S8_S8_S16_d0))

/-- Each lane's maximum with the lane four away. -/
def stage4 (v : FVec Ideal S16 .f32) : FVec Ideal S16 .f32 :=
  maximumf v (select (cmpi .eq (andi lanes (broadcast S16 4#32)) (broadcast S16 0#32))
    (concatenate S16 0 [⟨S12, extractStridedSlice S12 ![4] v slices_S16_o4_S12⟩, ⟨S4, extractStridedSlice S4 ![0] v slices_S16_o0_S4⟩] concatenates_S12_S4_S16_d0)
    (concatenate S16 0 [⟨S4, extractStridedSlice S4 ![12] v slices_S16_o12_S4⟩, ⟨S12, extractStridedSlice S12 ![0] v slices_S16_o0_S12⟩] concatenates_S4_S12_S16_d0))

/-- Each lane's maximum with the lane two away. -/
def stage2 (v : FVec Ideal S16 .f32) : FVec Ideal S16 .f32 :=
  maximumf v (select (cmpi .eq (andi lanes (broadcast S16 2#32)) (broadcast S16 0#32))
    (concatenate S16 0 [⟨S14, extractStridedSlice S14 ![2] v slices_S16_o2_S14⟩, ⟨S2, extractStridedSlice S2 ![0] v slices_S16_o0_S2⟩] concatenates_S14_S2_S16_d0)
    (concatenate S16 0 [⟨S2, extractStridedSlice S2 ![14] v slices_S16_o14_S2⟩, ⟨S14, extractStridedSlice S14 ![0] v slices_S16_o0_S14⟩] concatenates_S2_S14_S16_d0))

/-- Each lane's maximum with the lane one away. -/
def stage1 (v : FVec Ideal S16 .f32) : FVec Ideal S16 .f32 :=
  maximumf v (select (cmpi .eq (andi lanes (broadcast S16 1#32)) (broadcast S16 0#32))
    (concatenate S16 0 [⟨S15, extractStridedSlice S15 ![1] v slices_S16_o1_S15⟩, ⟨S1, extractStridedSlice S1 ![0] v slices_S16_o0_S1⟩] concatenates_S15_S1_S16_d0)
    (concatenate S16 0 [⟨S1, extractStridedSlice S1 ![15] v slices_S16_o15_S1⟩, ⟨S15, extractStridedSlice S15 ![0] v slices_S16_o0_S15⟩] concatenates_S1_S15_S16_d0))

/-- One step of the lane butterfly at distance 8, lane by lane. -/
theorem stage8_apply (v : FVec Ideal S16 .f32) (l : Fin 16) : (stage8 v (ix1 l) : EReal) = max (v (ix1 l)) (v (ix1 (flip 8 l))) := by
  pointwise [stage8]
  fin_cases l <;> rfl

/-- The same at distance 4. -/
theorem stage4_apply (v : FVec Ideal S16 .f32) (l : Fin 16) : (stage4 v (ix1 l) : EReal) = max (v (ix1 l)) (v (ix1 (flip 4 l))) := by
  pointwise [stage4]
  fin_cases l <;> rfl

/-- The same at distance 2. -/
theorem stage2_apply (v : FVec Ideal S16 .f32) (l : Fin 16) : (stage2 v (ix1 l) : EReal) = max (v (ix1 l)) (v (ix1 (flip 2 l))) := by
  pointwise [stage2]
  fin_cases l <;> rfl

/-- The same at distance 1. -/
theorem stage1_apply (v : FVec Ideal S16 .f32) (l : Fin 16) : (stage1 v (ix1 l) : EReal) = max (v (ix1 l)) (v (ix1 (flip 1 l))) := by
  pointwise [stage1]
  fin_cases l <;> rfl

/-- The four stages: every lane ends with the maximum of all sixteen. -/
theorem stages_apply (v : FVec Ideal S16 .f32) (l : Fin 16) :
    (stage1 (stage2 (stage4 (stage8 v))) (ix1 l) : EReal) = Finset.univ.sup fun a : Fin 16 => (v (ix1 a) : EReal) := by
  have h : ∀ a : Fin 16, (v (ix1 a) : EReal) ≤ Finset.univ.sup fun a : Fin 16 => (v (ix1 a) : EReal) :=
    fun a => Finset.le_sup (f := fun a : Fin 16 => (v (ix1 a) : EReal)) (Finset.mem_univ a)
  simp only [stage1_apply, stage2_apply, stage4_apply, stage8_apply]
  refine le_antisymm ?_ (Finset.sup_le fun a _ => ?_)
  · simp only [max_le_iff, h, and_self]
  · have hl : a = l ∨ a = flip 8 l ∨ a = flip 4 l ∨ a = flip 8 (flip 4 l) ∨ a = flip 2 l ∨ a = flip 8 (flip 2 l) ∨ a = flip 4 (flip 2 l) ∨ a = flip 8 (flip 4 (flip 2 l))
        ∨ a = flip 1 l ∨ a = flip 8 (flip 1 l) ∨ a = flip 4 (flip 1 l) ∨ a = flip 8 (flip 4 (flip 1 l)) ∨ a = flip 2 (flip 1 l) ∨ a = flip 8 (flip 2 (flip 1 l))
        ∨ a = flip 4 (flip 2 (flip 1 l)) ∨ a = flip 8 (flip 4 (flip 2 (flip 1 l))) := by revert a l; decide
    simp only [le_max_iff]
    rcases hl with h | h | h | h | h | h | h | h | h | h | h | h | h | h | h | h <;> rw [h] <;> simp only [le_refl, true_or, or_true]

/-- The lane-wise maximum of a row's pieces, column 0 masked out. -/
def merge (v : Pieces Ideal) : FVec Ideal S16 .f32 :=
  maximumf (maximumf (maximumf (maximumf (maximumf (maximumf (maximumf (select k0_pay269 (broadcast S16 negInf) (k0_pay1 (v 0)))
    (k0_pay2 (v 1))) (k0_pay3 (v 2))) (k0_pay4 (v 3))) (k0_pay5 (v 4))) (k0_pay6 (v 5))) (k0_pay7 (v 6))) (k0_pay8 (v 7))

/-- The kernel's exchange between lanes is the four stages. -/
theorem exchange_eq (v : Pieces Ideal) : k0_pay11 lanes (fold v) (k0_pay10 lanes) 0#32 = stage1 (stage2 (stage4 (stage8 (merge v)))) := rfl

/-- The test for lane zero. -/
theorem isZero (l : Fin 16) : IntOp.cmpi CmpIPredicate.eq (BitVec.ofNat 32 l.val) 0#32 = if l.val = 0 then 1#1 else 0#1 := by
  revert l; decide

/-- A lane of the maximum of a row's eight pieces, lane zero of the first left out. -/
theorem merge_apply (ρ : Fin 128 → EReal) (l : Fin 16) :
    (merge (cut (F := Ideal) ρ) (ix1 l) : EReal) = max (max (max (max (max (max (max (if l.val = 0 then ⊥ else ρ ⟨l.val, by omega⟩) (ρ ⟨16 + l.val, by omega⟩))
      (ρ ⟨32 + l.val, by omega⟩)) (ρ ⟨48 + l.val, by omega⟩)) (ρ ⟨64 + l.val, by omega⟩)) (ρ ⟨80 + l.val, by omega⟩)) (ρ ⟨96 + l.val, by omega⟩)) (ρ ⟨112 + l.val, by omega⟩) := by
  pointwise [merge, k0_pay1, k0_pay2, k0_pay3, k0_pay4, k0_pay5, k0_pay6, k0_pay7, k0_pay8, k0_pay269, cut]
  rw [isZero, ofBits_negInf]
  by_cases h : l.val = 0
  · rw [if_pos h, if_pos h]; rfl
  · rw [if_neg h, if_neg h]; rfl

/-- The exchange leaves the row's maximum over the columns after the first in every lane. -/
theorem exchange_apply (ρ : Fin 128 → EReal) (l : Fin 16) :
    (k0_pay11 lanes (fold (cut (F := Ideal) ρ)) (k0_pay10 lanes) 0#32 (ix1 l) : EReal) = rowMax ρ := by
  rw [exchange_eq, stages_apply, rowMax_eq_masked]
  simp only [merge_apply]
  refine le_antisymm (Finset.sup_le fun a _ => ?_) (Finset.sup_le fun j _ => ?_)
  · have h : ∀ (n : ℕ) (hn : n < 128), 16 ≤ n → ρ ⟨n, hn⟩ ≤ Finset.univ.sup fun j : Fin 128 => if j.val = 0 then (⊥ : EReal) else ρ j := fun n hn hl =>
      le_trans (le_of_eq (if_neg (by show ¬ n = 0; omega)).symm)
        (Finset.le_sup (f := fun j : Fin 128 => if j.val = 0 then (⊥ : EReal) else ρ j) (Finset.mem_univ (⟨n, hn⟩ : Fin 128)))
    have h0 := Finset.le_sup (f := fun j : Fin 128 => if j.val = 0 then (⊥ : EReal) else ρ j) (Finset.mem_univ (⟨a.val, by omega⟩ : Fin 128))
    refine max_le (max_le (max_le (max_le (max_le (max_le (max_le h0 ?_) ?_) ?_) ?_) ?_) ?_) ?_ <;> exact h _ _ (by omega)
  · refine le_trans ?_ (Finset.le_sup (f := fun l : Fin 16 => max (max (max (max (max (max (max (if l.val = 0 then (⊥ : EReal) else ρ ⟨l.val, by omega⟩) (ρ ⟨16 + l.val, by omega⟩))
      (ρ ⟨32 + l.val, by omega⟩)) (ρ ⟨48 + l.val, by omega⟩)) (ρ ⟨64 + l.val, by omega⟩)) (ρ ⟨80 + l.val, by omega⟩)) (ρ ⟨96 + l.val, by omega⟩)) (ρ ⟨112 + l.val, by omega⟩))
      (Finset.mem_univ (⟨j.val % 16, Nat.mod_lt _ (by decide)⟩ : Fin 16)))
    simp only [le_max_iff]
    have hj := j.isLt
    have key : ∀ (n : ℕ) (hn : n < 128), n = j.val → 16 ≤ n → (if j.val = 0 then (⊥ : EReal) else ρ j) ≤ ρ ⟨n, hn⟩ := by
      rintro n hn rfl hl
      rw [if_neg (by omega)]
    obtain h | h | h | h | h | h | h | h : j.val / 16 = 0 ∨ j.val / 16 = 1 ∨ j.val / 16 = 2 ∨ j.val / 16 = 3 ∨ j.val / 16 = 4 ∨ j.val / 16 = 5
        ∨ j.val / 16 = 6 ∨ j.val / 16 = 7 := by omega
    · have e : (⟨j.val % 16, by omega⟩ : Fin 128) = j := Fin.ext (by show j.val % 16 = j.val; omega)
      have e' : (j.val % 16 = 0) = (j.val = 0) := propext (by omega)
      simp only [e, e', le_refl, true_or]
    · exact .inl (.inl (.inl (.inl (.inl (.inl (.inr (key _ _ (by omega) (by omega))))))))
    · exact .inl (.inl (.inl (.inl (.inl (.inr (key _ _ (by omega) (by omega)))))))
    · exact .inl (.inl (.inl (.inl (.inr (key _ _ (by omega) (by omega))))))
    · exact .inl (.inl (.inl (.inr (key _ _ (by omega) (by omega)))))
    · exact .inl (.inl (.inr (key _ _ (by omega) (by omega))))
    · exact .inl (.inr (key _ _ (by omega) (by omega)))
    · exact .inr (key _ _ (by omega) (by omega))

/-- Every lane of the scale is the row's scale. -/
theorem scale_apply (ρ : Fin 128 → EReal) (l : Fin 16) : (scale (cut (F := Ideal) ρ) (ix1 l) : EReal) = RowSpec.scale (rowMax ρ) := by
  have h := exchange_apply ρ l
  unfold scale k0_pay12
  generalize k0_pay11 lanes (fold (cut (F := Ideal) ρ)) (k0_pay10 lanes) 0#32 = M at h ⊢
  pointwise
  rw [h, ofBits_127, mul_comm]; rfl

/-- Every lane of the shift is the row's shift. -/
theorem shift_apply (ρ : Fin 128 → EReal) (l : Fin 16) : (shift (cut (F := Ideal) ρ) (ix1 l) : EReal) = top - rowMax ρ := by
  have h := exchange_apply ρ l
  unfold shift k0_pay13
  generalize k0_pay11 lanes (fold (cut (F := Ideal) ρ)) (k0_pay10 lanes) 0#32 = M at h ⊢
  pointwise
  rw [h]

/-- Adding what the kernel adds is subtracting the maximum and adding the constant. -/
theorem shifted (x m : EReal) : x + (top - m) = x - m + top := by
  rw [sub_eq_add_neg, sub_eq_add_neg, add_assoc, add_comm (-m) top]

/-- A lane of a piece as the kernel writes it for every column but the first. -/
theorem later_apply (ρ : Fin 128 → EReal) (k : Fin 8) (l : Fin 16) (n : Fin 128) (hn : n.val = 16 * k.val + l.val) :
    (later (cut (F := Ideal) ρ) k (at2 (n := 1) (k := 16) 0 l) : EReal) = max (ρ n - rowMax ρ + top) 0 * RowSpec.scale (rowMax ρ) := by
  have h1 := scale_apply ρ l
  have h2 := shift_apply ρ l
  have h3 : (k0_pay2 (cut (F := Ideal) ρ k) (ix1 l) : EReal) = ρ n := by
    pointwise [k0_pay2, cut]
    exact congrArg ρ (Fin.ext hn.symm)
  unfold later
  generalize scale (cut (F := Ideal) ρ) = A at h1 ⊢
  generalize shift (cut (F := Ideal) ρ) = B at h2 ⊢
  generalize k0_pay2 (cut (F := Ideal) ρ k) = C at h3 ⊢
  pointwise [k0_pay17]
  show max (C (ix1 l) + B (ix1 l)) 0 * A (ix1 l) = _
  rw [h1, h2, h3, shifted]

/-- A lane of the first piece as the kernel writes it. -/
theorem first_apply (ρ : Fin 128 → EReal) (l : Fin 16) :
    (first (cut (F := Ideal) ρ) (at2 (n := 1) (k := 16) 0 l) : EReal) = out ρ ⟨l.val, by omega⟩ := by
  have h1 := scale_apply ρ l
  have h2 := shift_apply ρ l
  have h3 : (k0_pay1 (cut (F := Ideal) ρ 0) (ix1 l) : EReal) = ρ ⟨l.val, by omega⟩ := by
    pointwise [k0_pay1, cut]
  unfold first k0_pay14
  unfold scale at h1
  unfold shift at h2
  generalize k0_pay12 lanes (fold (cut (F := Ideal) ρ)) (k0_pay10 lanes) 0#32 = A at h1 ⊢
  generalize k0_pay13 lanes (fold (cut (F := Ideal) ρ)) (k0_pay10 lanes) 0#32 = B at h2 ⊢
  generalize k0_pay1 (cut (F := Ideal) ρ 0) = C at h3 ⊢
  pointwise [k0_pay16, k0_pay15, k0_pay269]
  show Scalar.select (IntOp.cmpi CmpIPredicate.eq (BitVec.ofNat 32 l.val) 0#32) (eps * (max (C (ix1 l) + top) 0 + 1)) (max (C (ix1 l) + B (ix1 l)) 0 * A (ix1 l)) = _
  rw [isZero, h1, h2, h3, shifted]
  unfold out
  by_cases h : l.val = 0
  · rw [if_pos h, if_pos h]; rfl
  · rw [if_neg h, if_neg h]; rfl

/-- The row loop's row, over the extended reals. -/
theorem rowOut_eq (ρ : Fin 128 → EReal) (j : Fin 128) : (rowOut (F := Ideal) ρ j : EReal) = out ρ j := by
  have hj := j.isLt
  unfold rowOut piece
  by_cases h : j.val / 16 = 0
  · rw [if_pos (Fin.ext h), first_apply]
    exact congrArg (out ρ) (Fin.ext (by show j.val % 16 = j.val; omega))
  · rw [if_neg (fun e => h (congrArg Fin.val e)), later_apply ρ _ _ j (by show j.val = 16 * (j.val / 16) + j.val % 16; omega)]
    unfold out
    rw [if_neg (by omega)]

end Cert.Proof.Row

end
-- ==== Proof.Math.RefValue.lean ====
/- What the reference computes, index by index: the row function of `Spec`. -/
module

public import proofs.«01_k».proof.Proof.Gen.ReferenceIdeal.Run
public import proofs.«01_k».proof.Proof.Math.Spec

@[expose] public section

noncomputable section

open Idealize.ShloMosaic Idealize.ShloMosaic.TcCoe Idealize.SL.Sem

namespace Cert.ReferenceIdeal.Read
open Cert.ReferenceIdeal Cert.ReferenceIdeal.Gen Cert.RowSpec

/-- The whole array of results: row `r` is the row function of row `r` of the argument. -/
def G (x : FVec Ideal S131072x128 .f32) : FVec Ideal S131072x128 .f32 := fun i => out (fun j => x (ix2 (i 0) j)) (i 1)

/-- The reference's maximum of a row over the columns after the first. -/
theorem rowMax_host (x : FVec Ideal S131072x128 .f32) (j : S131072.Idx) :
   Host.reduce FloatOps.maximumf (extractStridedSlice S131072x127 ![0, 1] x slices_S131072x128_S131072x127_0_1) (constant S_ .f32 0xFF800000#32) reducesTo_S131072x127_S131072_d1 h_S_ j
    = rowMax fun k => x (ix2 (j 0) k) := by
  pointwise
  rw [ofBits_negInf, fold_max_bot]; rfl

/-- The reference runs, its result is `G` of its argument, and the argument is unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = G (m ((c.tc : Thread nD τ).loc main_arg0))
      ∧ r.2.mem ((c.tc : Thread nD τ).loc main_arg0) = m ((c.tc : Thread nD τ).loc main_arg0) := by
  refine (θ_run defs _ _).mono (fun _ h c => ⟨(h c).1.trans ?_, (h c).2⟩) (Value.run m ρ)
  clear h
  generalize (m ((c.tc : Thread nD τ).loc main_arg0)) = x
  revert x; intro (x : FVec Ideal S131072x128 .f32)
  funext i
  have hm := rowMax_host x
  generalize Host.reduce FloatOps.maximumf (extractStridedSlice S131072x127 ![0, 1] x slices_S131072x128_S131072x127_0_1) (constant S_ .f32 0xFF800000#32) reducesTo_S131072x127_S131072_d1 h_S_ = M at hm ⊢
  pointwise
  simp only [hm]
  rw [sum_copies]
  have hi : ix2 (i 0) (i 1) = i := by
    funext a; match a with
    | ⟨0, _⟩ => rfl
    | ⟨1, _⟩ => rfl
  unfold G out
  by_cases h : (i 1).val < 1
  · rw [dif_pos h, dif_pos h, if_pos (by omega : (i 1).val = 0), sub_zero]
    rw [← congrArg x hi]
    rfl
  · rw [dif_neg h, if_neg (by omega : ¬ (i 1).val = 0)]
    have hk : ∀ hlt, (ix2 (i 0) ⟨1 + ((i 1).val - 1), hlt⟩ : S131072x128.Idx) = i := fun hlt => by
      funext a; match a with
      | ⟨0, _⟩ => rfl
      | ⟨1, _⟩ => exact Fin.ext (by show 1 + ((i 1).val - 1) = (i 1).val; omega)
    rw [hk, ← congrArg x hi]
    rfl
end Cert.ReferenceIdeal.Read
end
-- ==== Proof.lean ====
module

public import proofs.«01_k».proof.Defs
public import proofs.«01_k».proof.Proof.Gen.Kernel
public import proofs.«01_k».proof.Proof.Gen.KernelIdeal
public import proofs.«01_k».proof.Proof.Row.Launch
public import proofs.«01_k».proof.Proof.Row.Ideal
public import proofs.«01_k».proof.Proof.Math.RefValue
public import Idealize.ShloMosaic.Lib.Quiescent

@[expose] public section

noncomputable section

namespace Cert.Proof

open Idealize.ShloMosaic Idealize.ShloMosaic.TcCoe Idealize.SL.Sem

/-- The kernel at its float words: it runs, its argument is unchanged, every semaphore is back at zero. The program is the
    idealized one's text, so its run is that of `Row.run` at float words. -/
theorem frame_kernel : Cert.quiescent_Kernel := fun m ρ _ =>
  (θ_run Cert.KernelIdeal.defs _ _).mono (fun _ h => ⟨fun c => (h.1 c).1, h.2⟩) (Row.run (F := Bits) m ρ)

/-- The idealized kernel: the same. -/
theorem frame_ideal : Cert.quiescent_KernelIdeal := fun m ρ _ =>
  (θ_run Cert.KernelIdeal.defs _ _).mono (fun _ h => ⟨fun c => (h.1 c).1, h.2⟩) (Row.run (F := Ideal) m ρ)

/-- The reference: the same; it has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- What the kernel leaves in the result is, at the extended reals, what the reference computes. -/
theorem result_eq (m : (ℓ : Loc Cert.KernelIdeal.nD Cert.KernelIdeal.τ Cert.KernelIdeal.sig) → Buf (Elt Ideal) ℓ) (d : Dev Cert.KernelIdeal.nD) :
    (Row.result m d : Cert.KernelIdeal.S131072x128.Idx → EReal) = Cert.ReferenceIdeal.Read.G (m (Row.xLoc d)) :=
  funext fun i => Row.rowOut_eq _ (i 1)

/-- The idealized kernel and the reference end with equal results. -/
theorem algebraic : Cert.algebraic_KernelIdeal_ReferenceIdeal := by
  intro m ρ m' ρ' _ hagree
  refine ⟨fun c => Row.result m c, (θ_run Cert.KernelIdeal.defs _ _).mono (fun _ h c => ⟨(h.1 c).2, (h.1 c).1⟩) (Row.run (F := Ideal) m ρ), ?_⟩
  refine (θ_run Cert.ReferenceIdeal.defs _ _).mono (fun _ h c => ⟨(h c).1.trans ?_, (h c).2⟩) (Cert.ReferenceIdeal.Read.run m' ρ')
  rw [hagree c]
  exact (result_eq m c).symm

/-- Everything the certificate claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
